-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_unit [hPre_uniform_unit : Cert.Pre_uniform_unit.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_unit [hPre_uniform_unit : Cert.Pre_uniform_unit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_unit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_uniform_unit [hKernelIdeal : Cert.KernelIdeal.Facts] [hPre_uniform_unit : Cert.Pre_uniform_unit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_unit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_uniform_unit [hReferenceIdeal : Cert.ReferenceIdeal.Facts] [hPre_uniform_unit : Cert.Pre_uniform_unit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_unit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_uniform_unit [hKernelIdeal : Cert.KernelIdeal.Facts] [hReferenceIdeal : Cert.ReferenceIdeal.Facts] [hPre_uniform_unit : Cert.Pre_uniform_unit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_unit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v322) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_uniform_unit : Cert.Pre_uniform_unit.Facts),
    quiescent_Kernel (hKernel := hKernel)
    ∧ quiescent_KernelIdeal (hKernelIdeal := hKernelIdeal)
    ∧ quiescent_KernelIdeal_pre_uniform_unit (hKernelIdeal := hKernelIdeal) (hPre_uniform_unit := hPre_uniform_unit)
    ∧ quiescent_ReferenceIdeal (hReferenceIdeal := hReferenceIdeal)
    ∧ quiescent_ReferenceIdeal_pre_uniform_unit (hReferenceIdeal := hReferenceIdeal) (hPre_uniform_unit := hPre_uniform_unit)
    ∧ preserves_Kernel_KernelIdeal
    ∧ algebraic_KernelIdeal_ReferenceIdeal_pre_uniform_unit (hKernelIdeal := hKernelIdeal) (hReferenceIdeal := hReferenceIdeal) (hPre_uniform_unit := hPre_uniform_unit)
-- ==== Pre_uniform_unit.lean ====
abbrev S2048x64 : Shape := ⟨2, ![2048, 64]⟩
abbrev S64x64x64 : Shape := ⟨3, ![64, 64, 64]⟩
abbrev S64 : Shape := ⟨1, ![64]⟩
abbrev S64x1 : Shape := ⟨2, ![64, 1]⟩
abbrev S_ : Shape := ⟨0, ![]⟩

class Facts : Prop where
  shapeCasts_S64x1_S64 : S64x1.ShapeCasts S64
  bcast_S_S64 : S_.BroadcastsInDim S64 (![] : Fin 0 → Fin S64.rank)
  bcast_S_S2048x64 : S_.BroadcastsInDim S2048x64 (![] : Fin 0 → Fin S2048x64.rank)
  reducesTo_S2048x64_S_d0_1 : S2048x64.ReducesTo [0, 1] S_
  h_S_ : 0 < S_.numel
  reducesTo_S64_S_d0 : S64.ReducesTo [0] S_

variable [Facts]

def fn {F : FTy → Type} [FloatOps F] (main_arg0 : FVec F S2048x64 .f32) (main_arg1 : FVec F S64x64x64 .f32) (main_arg2 : FVec F S64 .f32) (main_arg3 : FVec F S64 .f32) : IVec S_ 1 :=
  let main_v0 : IVec S64x1 32 := iotaInDim S64x1 32 0
  let main_v1 : IVec S64 32 := shapeCast S64 main_v0 shapeCasts_S64x1_S64
  let main_v2 : FVec F S64 .f32 := sitofp .f32 main_v1
  let main_cst : FVec F S_ .f32 := constant S_ .f32 0x427C0000#32
  let main_v3 : FVec F S64 .f32 := broadcastInDim S64 ![] bcast_S_S64 main_cst
  let main_v4 : FVec F S64 .f32 := Host.divf main_v2 main_v3
  let main_cst_0 : FVec F S_ .f32 := constant S_ .f32 0x00000000#32
  let main_v5 : FVec F S2048x64 .f32 := broadcastInDim S2048x64 ![] bcast_S_S2048x64 main_cst_0
  let main_v6 : IVec S2048x64 1 := cmpf .oge main_arg0 main_v5
  let main_cst_1 : FVec F S_ .f32 := constant S_ .f32 0x3F800000#32
  let main_v7 : FVec F S2048x64 .f32 := broadcastInDim S2048x64 ![] bcast_S_S2048x64 main_cst_1
  let main_v8 : IVec S2048x64 1 := cmpf .ole main_arg0 main_v7
  let main_v9 : IVec S2048x64 1 := andi main_v6 main_v8
  let main_c : IVec S_ 1 := constantI S_ 1 1#1
  let main_v10 : IVec S_ 1 := (fun x v => Host.reduce IntOp.andi x v reducesTo_S2048x64_S_d0_1 h_S_) main_v9 main_c
  let main_v11 : IVec S64 1 := cmpf .oeq main_arg3 main_v4
  let main_c_2 : IVec S_ 1 := constantI S_ 1 1#1
  let main_v12 : IVec S_ 1 := (fun x v => Host.reduce IntOp.andi x v reducesTo_S64_S_d0 h_S_) main_v11 main_c_2
  let main_v13 : IVec S_ 1 := andi main_v10 main_v12
  main_v13
-- ==== Kernel.lean ====
abbrev S2048x64 : Shape := ⟨2, ![2048, 64]⟩
abbrev S64x64x64 : Shape := ⟨3, ![64, 64, 64]⟩
abbrev S64 : Shape := ⟨1, ![64]⟩
abbrev S64x4096 : Shape := ⟨2, ![64, 4096]⟩
abbrev S1x64 : Shape := ⟨2, ![1, 64]⟩
abbrev S512x64 : Shape := ⟨2, ![512, 64]⟩
abbrev S1x1 : Shape := ⟨2, ![1, 1]⟩
abbrev S1x4096 : Shape := ⟨2, ![1, 4096]⟩
abbrev S64x1 : Shape := ⟨2, ![64, 1]⟩
abbrev S64x2 : Shape := ⟨2, ![64, 2]⟩
abbrev S64x4095 : Shape := ⟨2, ![64, 4095]⟩
abbrev S64x4094 : Shape := ⟨2, ![64, 4094]⟩
abbrev S512x4096 : Shape := ⟨2, ![512, 4096]⟩

abbrev nBuf : Space → Nat
  | .hbm => 8
  | .vmem => 8
  | .smem => 0
  | _ => 0

abbrev bufTy : (tb : Table) → Fin (tcTables nBuf tb) → BufTy
  | .hbm, ⟨0, _⟩ => ⟨S2048x64, .f32⟩
  | .hbm, ⟨1, _⟩ => ⟨S64x64x64, .f32⟩
  | .hbm, ⟨2, _⟩ => ⟨S64, .f32⟩
  | .hbm, ⟨3, _⟩ => ⟨S64, .f32⟩
  | .hbm, ⟨4, _⟩ => ⟨S64x4096, .f32⟩
  | .hbm, ⟨5, _⟩ => ⟨S1x64, .f32⟩
  | .hbm, ⟨6, _⟩ => ⟨S1x64, .f32⟩
  | .hbm, ⟨7, _⟩ => ⟨S2048x64, .f32⟩
  | .local _ .vmem, ⟨0, _⟩ => ⟨S512x64, .f32⟩
  | .local _ .vmem, ⟨1, _⟩ => ⟨S512x64, .f32⟩
  | .local _ .vmem, ⟨2, _⟩ => ⟨S64x4096, .f32⟩
  | .local _ .vmem, ⟨3, _⟩ => ⟨S1x64, .f32⟩
  | .local _ .vmem, ⟨4, _⟩ => ⟨S1x64, .f32⟩
  | .local _ .vmem, ⟨5, _⟩ => ⟨S512x64, .f32⟩
  | .local _ .vmem, ⟨6, _⟩ => ⟨S512x64, .f32⟩
  | .local _ .vmem, ⟨7, _⟩ => ⟨S64x4096, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2048x64 : Shape := ⟨2, ![2048, 64]⟩
abbrev S64x64x64 : Shape := ⟨3, ![64, 64, 64]⟩
abbrev S64 : Shape := ⟨1, ![64]⟩
abbrev S63 : Shape := ⟨1, ![63]⟩
abbrev S64x64x63 : Shape := ⟨3, ![64, 64, 63]⟩
abbrev S_ : Shape := ⟨0, ![]⟩
abbrev S1x1x63 : Shape := ⟨3, ![1, 1, 63]⟩
abbrev S62 : Shape := ⟨1, ![62]⟩
abbrev S64x64x62 : Shape := ⟨3, ![64, 64, 62]⟩
abbrev S1x1x62 : Shape := ⟨3, ![1, 1, 62]⟩
abbrev S1 : Shape := ⟨1, ![1]⟩
abbrev S64x64x1 : Shape := ⟨3, ![64, 64, 1]⟩
abbrev S64x64 : Shape := ⟨2, ![64, 64]⟩
abbrev S1x1x64 : Shape := ⟨3, ![1, 1, 64]⟩
abbrev S2048x64x1 : Shape := ⟨3, ![2048, 64, 1]⟩
abbrev S2048x64x64 : Shape := ⟨3, ![2048, 64, 64]⟩
abbrev S1x64 : Shape := ⟨2, ![1, 64]⟩
abbrev S2048x64x2 : Shape := ⟨3, ![2048, 64, 2]⟩
abbrev S64x1x64 : Shape := ⟨3, ![64, 1, 64]⟩
abbrev S1x64x64 : Shape := ⟨3, ![1, 64, 64]⟩

abbrev nBuf : Space → Nat
  | .hbm => 394
  | .vmem => 0
  | .smem => 0
  | _ => 0

abbrev hbmTy0_0 (i : Nat) : BufTy := match i % 128 with
  | 0 => ⟨S2048x64, .f32⟩
  | 1 => ⟨S64x64x64, .f32⟩
  | 2 => ⟨S64, .f32⟩
  | 3 => ⟨S64, .f32⟩
  | 4 => ⟨S63, .f32⟩
  | 5 => ⟨S63, .f32⟩
  | 6 => ⟨S63, .f32⟩
  | 7 => ⟨S64x64x63, .f32⟩
  | 8 => ⟨S64x64x63, .f32⟩
  | 9 => ⟨S64x64x63, .f32⟩
  | 10 => ⟨S_, .f32⟩
  | 11 => ⟨S63, .f32⟩
  | 12 => ⟨S63, .f32⟩
  | 13 => ⟨S1x1x63, .f32⟩
  | 14 => ⟨S64x64x63, .f32⟩
  | 15 => ⟨S64x64x63, .f32⟩
  | 16 => ⟨S62, .f32⟩
  | 17 => ⟨S62, .f32⟩
  | 18 => ⟨S_, .f32⟩
  | 19 => ⟨S62, .f32⟩
  | 20 => ⟨S62, .f32⟩
  | 21 => ⟨S62, .f32⟩
  | 22 => ⟨S_, .f32⟩
  | 23 => ⟨S62, .f32⟩
  | 24 => ⟨S62, .f32⟩
  | 25 => ⟨S62, .f32⟩
  | 26 => ⟨S64x64x62, .f32⟩
  | 27 => ⟨S64x64x62, .f32⟩
  | 28 => ⟨S64x64x62, .f32⟩
  | 29 => ⟨S_, .f32⟩
  | 30 => ⟨S64x64x62, .f32⟩
  | 31 => ⟨S64x64x62, .i1⟩
  | 32 => ⟨S62, .f32⟩
  | 33 => ⟨S64x64x62, .f32⟩
  | 34 => ⟨S_, .f32⟩
  | 35 => ⟨S64x64x62, .f32⟩
  | 36 => ⟨S64x64x62, .f32⟩
  | 37 => ⟨S1x1x62, .f32⟩
  | 38 => ⟨S64x64x62, .f32⟩
  | 39 => ⟨S64x64x62, .f32⟩
  | 40 => ⟨S64x64x62, .f32⟩
  | 41 => ⟨S_, .f32⟩
  | 42 => ⟨S64x64x62, .f32⟩
  | 43 => ⟨S64x64x62, .f32⟩
  | 44 => ⟨S1x1x62, .f32⟩
  | 45 => ⟨S64x64x62, .f32⟩
  | 46 => ⟨S64x64x62, .f32⟩
  | 47 => ⟨S64x64x62, .f32⟩
  | 48 => ⟨S1x1x62, .f32⟩
  | 49 => ⟨S64x64x62, .f32⟩
  | 50 => ⟨S64x64x62, .f32⟩
  | 51 => ⟨S_, .f32⟩
  | 52 => ⟨S64x64x62, .f32⟩
  | 53 => ⟨S64x64x62, .f32⟩
  | 54 => ⟨S1, .f32⟩
  | 55 => ⟨S_, .f32⟩
  | 56 => ⟨S_, .f32⟩
  | 57 => ⟨S_, .f32⟩
  | 58 => ⟨S1, .f32⟩
  | 59 => ⟨S_, .f32⟩
  | 60 => ⟨S_, .f32⟩
  | 61 => ⟨S64x64x1, .f32⟩
  | 62 => ⟨S64x64, .f32⟩
  | 63 => ⟨S64x64, .f32⟩
  | 64 => ⟨S64x64, .f32⟩
  | 65 => ⟨S1, .f32⟩
  | 66 => ⟨S_, .f32⟩
  | 67 => ⟨S64x64x1, .f32⟩
  | 68 => ⟨S64x64, .f32⟩
  | 69 => ⟨S64x64, .f32⟩
  | 70 => ⟨S64x64, .f32⟩
  | 71 => ⟨S64x64, .f32⟩
  | 72 => ⟨S1, .f32⟩
  | 73 => ⟨S_, .f32⟩
  | 74 => ⟨S1, .f32⟩
  | 75 => ⟨S_, .f32⟩
  | 76 => ⟨S_, .f32⟩
  | 77 => ⟨S_, .f32⟩
  | 78 => ⟨S_, .f32⟩
  | 79 => ⟨S64x64, .f32⟩
  | 80 => ⟨S64x64, .f32⟩
  | 81 => ⟨S1, .f32⟩
  | 82 => ⟨S_, .f32⟩
  | 83 => ⟨S_, .f32⟩
  | 84 => ⟨S_, .f32⟩
  | 85 => ⟨S1, .f32⟩
  | 86 => ⟨S_, .f32⟩
  | 87 => ⟨S_, .f32⟩
  | 88 => ⟨S64x64x1, .f32⟩
  | 89 => ⟨S64x64, .f32⟩
  | 90 => ⟨S64x64, .f32⟩
  | 91 => ⟨S64x64, .f32⟩
  | 92 => ⟨S1, .f32⟩
  | 93 => ⟨S_, .f32⟩
  | 94 => ⟨S64x64x1, .f32⟩
  | 95 => ⟨S64x64, .f32⟩
  | 96 => ⟨S64x64, .f32⟩
  | 97 => ⟨S64x64, .f32⟩
  | 98 => ⟨S64x64, .f32⟩
  | 99 => ⟨S1, .f32⟩
  | 100 => ⟨S_, .f32⟩
  | 101 => ⟨S1, .f32⟩
  | 102 => ⟨S_, .f32⟩
  | 103 => ⟨S_, .f32⟩
  | 104 => ⟨S_, .f32⟩
  | 105 => ⟨S_, .f32⟩
  | 106 => ⟨S64x64, .f32⟩
  | 107 => ⟨S64x64, .f32⟩
  | 108 => ⟨S64x64x1, .f32⟩
  | 109 => ⟨S64x64, .f32⟩
  | 110 => ⟨S64x64, .f32⟩
  | 111 => ⟨S_, .f32⟩
  | 112 => ⟨S64x64, .f32⟩
  | 113 => ⟨S64x64, .i1⟩
  | 114 => ⟨S_, .f32⟩
  | 115 => ⟨S64x64, .f32⟩
  | 116 => ⟨S64x64, .f32⟩
  | 117 => ⟨S64x64, .f32⟩
  | 118 => ⟨S64x64, .f32⟩
  | 119 => ⟨S_, .f32⟩
  | 120 => ⟨S64x64, .f32⟩
  | 121 => ⟨S64x64, .f32⟩
  | 122 => ⟨S64x64, .i1⟩
  | 123 => ⟨S_, .f32⟩
  | 124 => ⟨S64x64, .f32⟩
  | 125 => ⟨S64x64, .f32⟩
  | 126 => ⟨S64x64, .f32⟩
  | 127 => ⟨S64x64x1, .f32⟩
  | _ => ⟨S2048x64, .f32⟩

abbrev hbmTy0_1 (i : Nat) : BufTy := match i % 128 with
  | 0 => ⟨S64x64, .f32⟩
  | 1 => ⟨S64x64, .f32⟩
  | 2 => ⟨S_, .f32⟩
  | 3 => ⟨S64x64, .f32⟩
  | 4 => ⟨S64x64, .i1⟩
  | 5 => ⟨S_, .f32⟩
  | 6 => ⟨S64x64, .f32⟩
  | 7 => ⟨S64x64, .f32⟩
  | 8 => ⟨S64x64, .f32⟩
  | 9 => ⟨S64x64, .f32⟩
  | 10 => ⟨S_, .f32⟩
  | 11 => ⟨S64x64, .f32⟩
  | 12 => ⟨S64x64, .f32⟩
  | 13 => ⟨S64x64, .i1⟩
  | 14 => ⟨S_, .f32⟩
  | 15 => ⟨S64x64, .f32⟩
  | 16 => ⟨S64x64, .f32⟩
  | 17 => ⟨S64x64, .f32⟩
  | 18 => ⟨S64x64x1, .f32⟩
  | 19 => ⟨S64x64x1, .f32⟩
  | 20 => ⟨S64x64x64, .f32⟩
  | 21 => ⟨S1, .f32⟩
  | 22 => ⟨S_, .f32⟩
  | 23 => ⟨S1, .f32⟩
  | 24 => ⟨S_, .f32⟩
  | 25 => ⟨S2048x64, .f32⟩
  | 26 => ⟨S2048x64, .f32⟩
  | 27 => ⟨S2048x64, .f32⟩
  | 28 => ⟨S2048x64, .f32⟩
  | 29 => ⟨S1x1x64, .f32⟩
  | 30 => ⟨S2048x64x1, .f32⟩
  | 31 => ⟨S2048x64x64, .f32⟩
  | 32 => ⟨S2048x64x64, .f32⟩
  | 33 => ⟨S2048x64x64, .i1⟩
  | 34 => ⟨S2048x64x64, .i32⟩
  | 35 => ⟨S_, .i32⟩
  | 36 => ⟨S2048x64, .i32⟩
  | 37 => ⟨S_, .i32⟩
  | 38 => ⟨S2048x64, .i32⟩
  | 39 => ⟨S2048x64, .i32⟩
  | 40 => ⟨S_, .i32⟩
  | 41 => ⟨S_, .i32⟩
  | 42 => ⟨S_, .i32⟩
  | 43 => ⟨S2048x64, .i32⟩
  | 44 => ⟨S2048x64, .i32⟩
  | 45 => ⟨S_, .i32⟩
  | 46 => ⟨S2048x64, .i32⟩
  | 47 => ⟨S2048x64, .i32⟩
  | 48 => ⟨S_, .i32⟩
  | 49 => ⟨S2048x64, .i32⟩
  | 50 => ⟨S2048x64, .i1⟩
  | 51 => ⟨S_, .i32⟩
  | 52 => ⟨S2048x64, .i32⟩
  | 53 => ⟨S2048x64, .i32⟩
  | 54 => ⟨S2048x64, .i32⟩
  | 55 => ⟨S2048x64x1, .i32⟩
  | 56 => ⟨S2048x64, .f32⟩
  | 57 => ⟨S_, .i32⟩
  | 58 => ⟨S2048x64, .i32⟩
  | 59 => ⟨S2048x64, .i32⟩
  | 60 => ⟨S_, .i32⟩
  | 61 => ⟨S2048x64, .i32⟩
  | 62 => ⟨S2048x64, .i1⟩
  | 63 => ⟨S_, .i32⟩
  | 64 => ⟨S2048x64, .i32⟩
  | 65 => ⟨S2048x64, .i32⟩
  | 66 => ⟨S2048x64, .i32⟩
  | 67 => ⟨S2048x64x1, .i32⟩
  | 68 => ⟨S2048x64, .f32⟩
  | 69 => ⟨S2048x64, .f32⟩
  | 70 => ⟨S2048x64, .f32⟩
  | 71 => ⟨S_, .f32⟩
  | 72 => ⟨S2048x64, .f32⟩
  | 73 => ⟨S2048x64, .i1⟩
  | 74 => ⟨S_, .f32⟩
  | 75 => ⟨S2048x64, .f32⟩
  | 76 => ⟨S2048x64, .f32⟩
  | 77 => ⟨S2048x64, .f32⟩
  | 78 => ⟨S_, .f32⟩
  | 79 => ⟨S2048x64, .f32⟩
  | 80 => ⟨S2048x64, .i1⟩
  | 81 => ⟨S_, .f32⟩
  | 82 => ⟨S2048x64, .f32⟩
  | 83 => ⟨S2048x64, .f32⟩
  | 84 => ⟨S2048x64, .f32⟩
  | 85 => ⟨S2048x64, .f32⟩
  | 86 => ⟨S2048x64, .f32⟩
  | 87 => ⟨S2048x64, .f32⟩
  | 88 => ⟨S_, .f32⟩
  | 89 => ⟨S2048x64, .f32⟩
  | 90 => ⟨S2048x64, .f32⟩
  | 91 => ⟨S_, .f32⟩
  | 92 => ⟨S2048x64, .f32⟩
  | 93 => ⟨S2048x64, .f32⟩
  | 94 => ⟨S2048x64, .f32⟩
  | 95 => ⟨S_, .f32⟩
  | 96 => ⟨S2048x64, .f32⟩
  | 97 => ⟨S2048x64, .f32⟩
  | 98 => ⟨S_, .f32⟩
  | 99 => ⟨S2048x64, .f32⟩
  | 100 => ⟨S2048x64, .f32⟩
  | 101 => ⟨S2048x64, .f32⟩
  | 102 => ⟨S2048x64, .f32⟩
  | 103 => ⟨S_, .f32⟩
  | 104 => ⟨S2048x64, .f32⟩
  | 105 => ⟨S2048x64, .f32⟩
  | 106 => ⟨S_, .f32⟩
  | 107 => ⟨S2048x64, .f32⟩
  | 108 => ⟨S2048x64, .f32⟩
  | 109 => ⟨S2048x64, .f32⟩
  | 110 => ⟨S2048x64, .f32⟩
  | 111 => ⟨S64x64x64, .f32⟩
  | 112 => ⟨S64x64x64, .f32⟩
  | 113 => ⟨S64, .i32⟩
  | 114 => ⟨S1x64, .i32⟩
  | 115 => ⟨S_, .i32⟩
  | 116 => ⟨S1x64, .i32⟩
  | 117 => ⟨S1x64, .i1⟩
  | 118 => ⟨S_, .i32⟩
  | 119 => ⟨S1x64, .i32⟩
  | 120 => ⟨S1x64, .i32⟩
  | 121 => ⟨S1x64, .i32⟩
  | 122 => ⟨S_, .i32⟩
  | 123 => ⟨S2048x64, .i32⟩
  | 124 => ⟨S2048x64, .i1⟩
  | 125 => ⟨S_, .i32⟩
  | 126 => ⟨S2048x64, .i32⟩
  | 127 => ⟨S2048x64, .i32⟩
  | _ => ⟨S2048x64, .f32⟩

abbrev hbmTy0_2 (i : Nat) : BufTy := match i % 128 with
  | 0 => ⟨S2048x64, .i32⟩
  | 1 => ⟨S2048x64, .i32⟩
  | 2 => ⟨S2048x64x1, .i32⟩
  | 3 => ⟨S2048x64x1, .i32⟩
  | 4 => ⟨S2048x64x2, .i32⟩
  | 5 => ⟨S2048x64x64, .f32⟩
  | 6 => ⟨S_, .i32⟩
  | 7 => ⟨S2048x64, .i32⟩
  | 8 => ⟨S2048x64, .i32⟩
  | 9 => ⟨S_, .i32⟩
  | 10 => ⟨S1x64, .i32⟩
  | 11 => ⟨S1x64, .i1⟩
  | 12 => ⟨S_, .i32⟩
  | 13 => ⟨S1x64, .i32⟩
  | 14 => ⟨S1x64, .i32⟩
  | 15 => ⟨S1x64, .i32⟩
  | 16 => ⟨S_, .i32⟩
  | 17 => ⟨S2048x64, .i32⟩
  | 18 => ⟨S2048x64, .i1⟩
  | 19 => ⟨S_, .i32⟩
  | 20 => ⟨S2048x64, .i32⟩
  | 21 => ⟨S2048x64, .i32⟩
  | 22 => ⟨S2048x64, .i32⟩
  | 23 => ⟨S2048x64, .i32⟩
  | 24 => ⟨S2048x64x1, .i32⟩
  | 25 => ⟨S2048x64x1, .i32⟩
  | 26 => ⟨S2048x64x2, .i32⟩
  | 27 => ⟨S2048x64x64, .f32⟩
  | 28 => ⟨S_, .i32⟩
  | 29 => ⟨S1x64, .i32⟩
  | 30 => ⟨S1x64, .i1⟩
  | 31 => ⟨S_, .i32⟩
  | 32 => ⟨S1x64, .i32⟩
  | 33 => ⟨S1x64, .i32⟩
  | 34 => ⟨S1x64, .i32⟩
  | 35 => ⟨S_, .i32⟩
  | 36 => ⟨S2048x64, .i32⟩
  | 37 => ⟨S2048x64, .i1⟩
  | 38 => ⟨S_, .i32⟩
  | 39 => ⟨S2048x64, .i32⟩
  | 40 => ⟨S2048x64, .i32⟩
  | 41 => ⟨S2048x64, .i32⟩
  | 42 => ⟨S2048x64, .i32⟩
  | 43 => ⟨S2048x64x1, .i32⟩
  | 44 => ⟨S2048x64x1, .i32⟩
  | 45 => ⟨S2048x64x2, .i32⟩
  | 46 => ⟨S2048x64x64, .f32⟩
  | 47 => ⟨S_, .i32⟩
  | 48 => ⟨S2048x64, .i32⟩
  | 49 => ⟨S2048x64, .i32⟩
  | 50 => ⟨S_, .i32⟩
  | 51 => ⟨S1x64, .i32⟩
  | 52 => ⟨S1x64, .i1⟩
  | 53 => ⟨S_, .i32⟩
  | 54 => ⟨S1x64, .i32⟩
  | 55 => ⟨S1x64, .i32⟩
  | 56 => ⟨S1x64, .i32⟩
  | 57 => ⟨S_, .i32⟩
  | 58 => ⟨S2048x64, .i32⟩
  | 59 => ⟨S2048x64, .i1⟩
  | 60 => ⟨S_, .i32⟩
  | 61 => ⟨S2048x64, .i32⟩
  | 62 => ⟨S2048x64, .i32⟩
  | 63 => ⟨S2048x64, .i32⟩
  | 64 => ⟨S2048x64, .i32⟩
  | 65 => ⟨S2048x64x1, .i32⟩
  | 66 => ⟨S2048x64x1, .i32⟩
  | 67 => ⟨S2048x64x2, .i32⟩
  | 68 => ⟨S2048x64x64, .f32⟩
  | 69 => ⟨S2048x64x1, .f32⟩
  | 70 => ⟨S2048x64x1, .f32⟩
  | 71 => ⟨S2048x64x64, .f32⟩
  | 72 => ⟨S2048x64x64, .f32⟩
  | 73 => ⟨S2048x64x1, .f32⟩
  | 74 => ⟨S2048x64x1, .f32⟩
  | 75 => ⟨S2048x64x64, .f32⟩
  | 76 => ⟨S2048x64x64, .f32⟩
  | 77 => ⟨S2048x64x64, .f32⟩
  | 78 => ⟨S2048x64x1, .f32⟩
  | 79 => ⟨S2048x64x64, .f32⟩
  | 80 => ⟨S2048x64x64, .f32⟩
  | 81 => ⟨S2048x64x64, .f32⟩
  | 82 => ⟨S2048x64x1, .f32⟩
  | 83 => ⟨S2048x64x1, .f32⟩
  | 84 => ⟨S2048x64x64, .f32⟩
  | 85 => ⟨S2048x64x64, .f32⟩
  | 86 => ⟨S2048x64x64, .f32⟩
  | 87 => ⟨S1, .f32⟩
  | 88 => ⟨S_, .f32⟩
  | 89 => ⟨S2048x64, .f32⟩
  | 90 => ⟨S2048x64, .i1⟩
  | 91 => ⟨S2048x64x1, .i1⟩
  | 92 => ⟨S1, .f32⟩
  | 93 => ⟨S_, .f32⟩
  | 94 => ⟨S2048x64, .f32⟩
  | 95 => ⟨S2048x64, .i1⟩
  | 96 => ⟨S2048x64x1, .i1⟩
  | 97 => ⟨S64x1x64, .f32⟩
  | 98 => ⟨S64x64, .f32⟩
  | 99 => ⟨S1x64x64, .f32⟩
  | 100 => ⟨S64x1x64, .f32⟩
  | 101 => ⟨S64x64, .f32⟩
  | 102 => ⟨S1x64x64, .f32⟩
  | 103 => ⟨S1, .f32⟩
  | 104 => ⟨S_, .f32⟩
  | 105 => ⟨S2048x64, .f32⟩
  | 106 => ⟨S2048x64, .f32⟩
  | 107 => ⟨S2048x64x1, .f32⟩
  | 108 => ⟨S2048x64x64, .f32⟩
  | 109 => ⟨S2048x64x64, .f32⟩
  | 110 => ⟨S2048x64x64, .f32⟩
  | 111 => ⟨S2048x64x64, .f32⟩
  | 112 => ⟨S2048x64x64, .f32⟩
  | 113 => ⟨S2048x64x64, .i1⟩
  | 114 => ⟨S2048x64x64, .f32⟩
  | 115 => ⟨S64x1x64, .f32⟩
  | 116 => ⟨S64x64, .f32⟩
  | 117 => ⟨S1x64x64, .f32⟩
  | 118 => ⟨S64x1x64, .f32⟩
  | 119 => ⟨S64x64, .f32⟩
  | 120 => ⟨S1x64x64, .f32⟩
  | 121 => ⟨S1, .f32⟩
  | 122 => ⟨S_, .f32⟩
  | 123 => ⟨S2048x64, .f32⟩
  | 124 => ⟨S2048x64, .f32⟩
  | 125 => ⟨S2048x64x1, .f32⟩
  | 126 => ⟨S2048x64x64, .f32⟩
  | 127 => ⟨S2048x64x64, .f32⟩
  | _ => ⟨S2048x64, .f32⟩

abbrev hbmTy0_3 (i : Nat) : BufTy := match i % 128 with
  | 0 => ⟨S2048x64x64, .f32⟩
  | 1 => ⟨S2048x64x64, .f32⟩
  | 2 => ⟨S2048x64x64, .f32⟩
  | 3 => ⟨S2048x64x64, .i1⟩
  | 4 => ⟨S2048x64x64, .f32⟩
  | 5 => ⟨S_, .f32⟩
  | 6 => ⟨S2048x64, .f32⟩
  | 7 => ⟨S1x64, .f32⟩
  | 8 => ⟨S2048x64, .f32⟩
  | 9 => ⟨S2048x64, .f32⟩
  | _ => ⟨S2048x64, .f32⟩

abbrev hbmTy (i : Nat) : BufTy := match i / 128 with
  | 0 => hbmTy0_0 i
  | 1 => hbmTy0_1 i
  | 2 => hbmTy0_2 i
  | 3 => hbmTy0_3 i
  | _ => ⟨S2048x64, .f32⟩

abbrev bufTy : (tb : Table) → Fin (tcTables nBuf tb) → BufTy
  | .hbm, ⟨i, _⟩ => hbmTy i
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_7 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_8 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_9 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_10 : Ref sig .tc := ⟨.hbm, 111, rfl⟩
abbrev main_v96 : Ref sig .tc := ⟨.hbm, 112, rfl⟩
abbrev main_v97 : Ref sig .tc := ⟨.hbm, 113, rfl⟩
abbrev main_cst_11 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_12 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_13 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_cst_14 : Ref sig .tc := ⟨.hbm, 130, rfl⟩
abbrev main_v111 : Ref sig .tc := ⟨.hbm, 131, rfl⟩
abbrev main_v112 : Ref sig .tc := ⟨.hbm, 132, rfl⟩
abbrev main_cst_15 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_16 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_cst_17 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_call5_v0 : Ref sig .tc := ⟨.hbm, 153, rfl⟩
abbrev main_call5_v1 : Ref sig .tc := ⟨.hbm, 154, rfl⟩
abbrev main_call5_v2 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_c : Ref sig .tc := ⟨.hbm, 163, rfl⟩
abbrev main_v137 : Ref sig .tc := ⟨.hbm, 164, rfl⟩
abbrev main_c_18 : Ref sig .tc := ⟨.hbm, 165, rfl⟩
abbrev main_v138 : Ref sig .tc := ⟨.hbm, 166, rfl⟩
abbrev main_v139 : Ref sig .tc := ⟨.hbm, 167, rfl⟩
abbrev main_c_19 : Ref sig .tc := ⟨.hbm, 168, rfl⟩
abbrev main_c_20 : Ref sig .tc := ⟨.hbm, 169, rfl⟩
abbrev main_call6_v0 : Ref sig .tc := ⟨.hbm, 170, rfl⟩
abbrev main_call6_v1 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_v140 : Ref sig .tc := ⟨.hbm, 175, rfl⟩
abbrev main_c_21 : Ref sig .tc := ⟨.hbm, 176, rfl⟩
abbrev main_v141 : Ref sig .tc := ⟨.hbm, 177, rfl⟩
abbrev main_v142 : Ref sig .tc := ⟨.hbm, 178, rfl⟩
abbrev main_c_22 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_c_23 : Ref sig .tc := ⟨.hbm, 185, rfl⟩
abbrev main_v148 : Ref sig .tc := ⟨.hbm, 186, rfl⟩
abbrev main_v149 : Ref sig .tc := ⟨.hbm, 187, rfl⟩
abbrev main_c_24 : Ref sig .tc := ⟨.hbm, 188, rfl⟩
abbrev main_v150 : Ref sig .tc := ⟨.hbm, 189, rfl⟩
abbrev main_v151 : Ref sig .tc := ⟨.hbm, 190, rfl⟩
abbrev main_c_25 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_cst_26 : Ref sig .tc := ⟨.hbm, 199, rfl⟩
abbrev main_v159 : Ref sig .tc := ⟨.hbm, 200, rfl⟩
abbrev main_v160 : Ref sig .tc := ⟨.hbm, 201, rfl⟩
abbrev main_cst_27 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_cst_28 : Ref sig .tc := ⟨.hbm, 206, rfl⟩
abbrev main_v164 : Ref sig .tc := ⟨.hbm, 207, rfl⟩
abbrev main_v165 : Ref sig .tc := ⟨.hbm, 208, rfl⟩
abbrev main_cst_29 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_cst_30 : Ref sig .tc := ⟨.hbm, 216, rfl⟩
abbrev main_v172 : Ref sig .tc := ⟨.hbm, 217, rfl⟩
abbrev main_v173 : Ref sig .tc := ⟨.hbm, 218, rfl⟩
abbrev main_cst_31 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_cst_32 : Ref sig .tc := ⟨.hbm, 223, rfl⟩
abbrev main_v177 : Ref sig .tc := ⟨.hbm, 224, rfl⟩
abbrev main_v178 : Ref sig .tc := ⟨.hbm, 225, rfl⟩
abbrev main_cst_33 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_cst_34 : Ref sig .tc := ⟨.hbm, 231, rfl⟩
abbrev main_v183 : Ref sig .tc := ⟨.hbm, 232, rfl⟩
abbrev main_v184 : Ref sig .tc := ⟨.hbm, 233, rfl⟩
abbrev main_cst_35 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_c_36 : Ref sig .tc := ⟨.hbm, 243, rfl⟩
abbrev main_v193 : Ref sig .tc := ⟨.hbm, 244, rfl⟩
abbrev main_v194 : Ref sig .tc := ⟨.hbm, 245, rfl⟩
abbrev main_c_37 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_c_38 : Ref sig .tc := ⟨.hbm, 250, rfl⟩
abbrev main_v198 : Ref sig .tc := ⟨.hbm, 251, rfl⟩
abbrev main_v199 : Ref sig .tc := ⟨.hbm, 252, rfl⟩
abbrev main_c_39 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_c_40 : Ref sig .tc := ⟨.hbm, 262, rfl⟩
abbrev main_v208 : Ref sig .tc := ⟨.hbm, 263, rfl⟩
abbrev main_v209 : Ref sig .tc := ⟨.hbm, 264, rfl⟩
abbrev main_c_41 : Ref sig .tc := ⟨.hbm, 265, rfl⟩
abbrev main_v210 : Ref sig .tc := ⟨.hbm, 266, rfl⟩
abbrev main_v211 : Ref sig .tc := ⟨.hbm, 267, rfl⟩
abbrev main_c_42 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_c_43 : Ref sig .tc := ⟨.hbm, 272, rfl⟩
abbrev main_v215 : Ref sig .tc := ⟨.hbm, 273, rfl⟩
abbrev main_v216 : Ref sig .tc := ⟨.hbm, 274, rfl⟩
abbrev main_c_44 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_c_45 : Ref sig .tc := ⟨.hbm, 284, rfl⟩
abbrev main_v225 : Ref sig .tc := ⟨.hbm, 285, rfl⟩
abbrev main_v226 : Ref sig .tc := ⟨.hbm, 286, rfl⟩
abbrev main_c_46 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_c_47 : Ref sig .tc := ⟨.hbm, 291, rfl⟩
abbrev main_v230 : Ref sig .tc := ⟨.hbm, 292, rfl⟩
abbrev main_v231 : Ref sig .tc := ⟨.hbm, 293, rfl⟩
abbrev main_c_48 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_c_49 : Ref sig .tc := ⟨.hbm, 303, rfl⟩
abbrev main_v240 : Ref sig .tc := ⟨.hbm, 304, rfl⟩
abbrev main_v241 : Ref sig .tc := ⟨.hbm, 305, rfl⟩
abbrev main_c_50 : Ref sig .tc := ⟨.hbm, 306, rfl⟩
abbrev main_v242 : Ref sig .tc := ⟨.hbm, 307, rfl⟩
abbrev main_v243 : Ref sig .tc := ⟨.hbm, 308, rfl⟩
abbrev main_c_51 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_c_52 : Ref sig .tc := ⟨.hbm, 313, rfl⟩
abbrev main_v247 : Ref sig .tc := ⟨.hbm, 314, rfl⟩
abbrev main_v248 : Ref sig .tc := ⟨.hbm, 315, rfl⟩
abbrev main_c_53 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_v253 : Ref sig .tc := ⟨.hbm, 321, rfl⟩
abbrev main_v254 : Ref sig .tc := ⟨.hbm, 322, rfl⟩
abbrev main_v255 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_v294 : Ref sig .tc := ⟨.hbm, 362, rfl⟩
abbrev main_v295 : Ref sig .tc := ⟨.hbm, 363, rfl⟩
abbrev main_v296 : Ref sig .tc := ⟨.hbm, 364, rfl⟩
abbrev main_v297 : Ref sig .tc := ⟨.hbm, 365, rfl⟩
abbrev main_v298 : Ref sig .tc := ⟨.hbm, 366, rfl⟩
abbrev main_v299 : Ref sig .tc := ⟨.hbm, 367, rfl⟩
abbrev main_v300 : Ref sig .tc := ⟨.hbm, 368, rfl⟩
abbrev main_call9_v0 : Ref sig .tc := ⟨.hbm, 369, rfl⟩
abbrev main_v301 : Ref sig .tc := ⟨.hbm, 370, rfl⟩
abbrev main_v302 : Ref sig .tc := ⟨.hbm, 371, rfl⟩
abbrev main_v303 : Ref sig .tc := ⟨.hbm, 372, rfl⟩
abbrev main_v304 : Ref sig .tc := ⟨.hbm, 373, rfl⟩
abbrev main_v305 : Ref sig .tc := ⟨.hbm, 374, rfl⟩
abbrev main_v306 : Ref sig .tc := ⟨.hbm, 375, rfl⟩
abbrev main_v307 : Ref sig .tc := ⟨.hbm, 376, rfl⟩
abbrev main_v308 : Ref sig .tc := ⟨.hbm, 377, rfl⟩
abbrev main_v309 : Ref sig .tc := ⟨.hbm, 378, rfl⟩
abbrev main_v310 : Ref sig .tc := ⟨.hbm, 379, rfl⟩
abbrev main_v311 : Ref sig .tc := ⟨.hbm, 380, rfl⟩
abbrev main_v312 : Ref sig .tc := ⟨.hbm, 381, rfl⟩
abbrev main_v313 : Ref sig .tc := ⟨.hbm, 382, rfl⟩
abbrev main_v314 : Ref sig .tc := ⟨.hbm, 383, rfl⟩
abbrev main_v315 : Ref sig .tc := ⟨.hbm, 384, rfl⟩
abbrev main_v316 : Ref sig .tc := ⟨.hbm, 385, rfl⟩
abbrev main_v317 : Ref sig .tc := ⟨.hbm, 386, rfl⟩
abbrev main_call10_v0 : Ref sig .tc := ⟨.hbm, 387, rfl⟩
abbrev main_v318 : Ref sig .tc := ⟨.hbm, 388, rfl⟩
abbrev main_cst_54 : Ref sig .tc := ⟨.hbm, 389, rfl⟩
abbrev main_v319 : Ref sig .tc := ⟨.hbm, 390, rfl⟩
abbrev main_v320 : Ref sig .tc := ⟨.hbm, 391, rfl⟩
abbrev main_v321 : Ref sig .tc := ⟨.hbm, 392, rfl⟩
abbrev main_v322 : Ref sig .tc := ⟨.hbm, 393, rfl⟩

abbrev nD : Nat := 1
abbrev τ : Topo := Topo.v7x

variable {F : FTy → Type} [FloatOps F]
-- ==== Proof.Scalars.lean ====
/- The extended-real arithmetic of the certificate: the constants of the two programs, the slope of a monotone
   cubic at a knot, the four cubic weights, and the two algebraic laws (scaling a difference by a positive real, dividing by
   one) that let the kernel's order of operations meet the reference's. -/
module

public import Idealize.ShloMosaic.Lib.Pointwise

@[expose] public section

set_option maxRecDepth 16384

noncomputable section

namespace Cert.Spline

open Idealize.ShloMosaic

/-! ## Constants -/

/-- The pattern of the small number both programs add to a divisor. -/
def eps : EReal := Ideal.ofBits .f32 0x2B8CBCCC#32

/-- The pattern 0x427C0000 is 63. -/
theorem ofBits_63 : Ideal.ofBits .f32 0x427C0000#32 = ((63 : ℝ) : EReal) := by
  simp [Ideal.ofBits, Ideal.ieee, -EReal.coe_mul]; norm_num

/-- The pattern 0x40400000 is 3. -/
theorem ofBits_3 : Ideal.ofBits .f32 0x40400000#32 = ((3 : ℝ) : EReal) := by
  simp [Ideal.ofBits, Ideal.ieee, -EReal.coe_mul]; norm_num

/-- The pattern 0x40000000 is 2. -/
theorem ofBits_2 : Ideal.ofBits .f32 0x40000000#32 = ((2 : ℝ) : EReal) := by
  simp [Ideal.ofBits, Ideal.ieee, -EReal.coe_mul]; norm_num

/-- The pattern 0xC0000000 is −2. -/
theorem ofBits_neg2 : Ideal.ofBits .f32 0xC0000000#32 = ((-2 : ℝ) : EReal) := by
  simp [Ideal.ofBits, Ideal.ieee, -EReal.coe_mul]; norm_num

/-- The small number is a positive real below 1/63. -/
theorem eps_real : ∃ e : ℝ, 0 < e ∧ e < 1 / 63 ∧ eps = (e : EReal) := by
  refine ⟨9223372 * (2 : ℝ) ^ (-63 : ℤ), by norm_num, by norm_num, ?_⟩
  unfold eps
  simp [Ideal.ofBits, Ideal.ieee, -EReal.coe_mul]

/-- The knots' spacing, 1/63. -/
def hh : EReal := ((1 / 63 : ℝ) : EReal)

/-! ## Laws -/

/-- A quotient by a nonzero real is a product with its reciprocal. -/
theorem div_real (x : EReal) {r : ℝ} (hr : r ≠ 0) : Ideal.div x (r : EReal) = x * ((r⁻¹ : ℝ) : EReal) := by
  unfold Ideal.div
  rw [if_neg (by exact_mod_cast hr), EReal.coe_inv]

/-- A positive real factor goes inside a difference. -/
theorem real_mul_sub {r : ℝ} (hr : 0 < r) (a b : EReal) : (r : EReal) * (a - b) = (r : EReal) * a - (r : EReal) * b := by
  induction a <;> induction b <;>
    simp [EReal.coe_mul_top_of_pos hr, EReal.coe_mul_bot_of_pos hr, ← EReal.coe_mul, ← EReal.coe_sub, mul_sub]

/-- Dividing one first and multiplying afterwards is dividing. -/
theorem mul_one_div (x : EReal) {r : ℝ} (hr : r ≠ 0) : x * Ideal.div 1 (r : EReal) = Ideal.div x (r : EReal) := by
  rw [div_real _ hr, div_real _ hr, one_mul]

/-- An absolute value of a real. -/
theorem absf_real (r : ℝ) : FloatOps.absf (F := Ideal) (φ := .f32) ((r : ℝ) : EReal) = ((|r| : ℝ) : EReal) := by
  show max ((r : ℝ) : EReal) (-((r : ℝ) : EReal)) = _
  rw [← EReal.coe_neg, ← EReal.coe_strictMono.monotone.map_max]
  rfl

/-- A word that holds a small natural number, read signed. -/
theorem toInt_nat {n : ℕ} (h : n < 2147483648) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

/-- … and converted to a float. -/
theorem sitofp_nat {n : ℕ} (h : n < 2147483648) :
    FloatOps.sitofp (F := Ideal) .f32 (BitVec.ofNat 32 n) = ((n : ℝ) : EReal) := by
  show (((BitVec.ofNat 32 n).toInt : ℝ) : EReal) = _
  rw [toInt_nat h, Int.cast_natCast]

/-! ## The slope at a knot -/

/-- The secant slope over interval `k` of one spline's values. -/
def delta (y : Fin 64 → EReal) (k : Fin 63) : EReal := Ideal.div (y k.succ - y k.castSucc) (hh + eps)

/-- Three times the spacing: each of the two weights of the harmonic mean. -/
def w3 : EReal := ((3 : ℝ) : EReal) * hh

/-- The slope at an interior knot, from the secants on its two sides: their weighted harmonic mean where they have one
    sign, else 0. -/
def inner (a b : EReal) : EReal :=
  if 0 < a * b then Ideal.div (w3 + w3) (Ideal.div w3 (a + eps) + Ideal.div w3 (b + eps)) else 0

/-- The limiter of an end slope `d` against the secant `a` next to it: 0 where the signs differ, at most three times `a`. -/
def limited (d a : EReal) : EReal :=
  if ((3 : ℝ) : EReal) * FloatOps.absf (F := Ideal) (φ := .f32) a < FloatOps.absf (F := Ideal) (φ := .f32) (if d * a ≤ 0 then 0 else d)
  then ((3 : ℝ) : EReal) * a else if d * a ≤ 0 then 0 else d

/-- The slope at an end knot, from the secant `a` next to it and the next one `b`. -/
def edge (a b : EReal) : EReal :=
  limited ((((3 : ℝ) : EReal) * a - b) * Ideal.div hh (((2 : ℝ) : EReal) * hh + eps)) a

/-- The slope of the monotone cubic through `y` at knot `k`. -/
def slope (y : Fin 64 → EReal) (k : Fin 64) : EReal :=
  if h0 : k.val = 0 then edge (delta y 0) (delta y 1)
  else if h1 : k.val = 63 then edge (delta y 62) (delta y 61)
  else inner (delta y ⟨k.val - 1, by omega⟩) (delta y ⟨k.val, by omega⟩)

/-! ## The weights -/

/-- The kernel's weight of a knot's value at distance `s` (in intervals) from the knot. -/
def bump (s : ℝ) : ℝ := (1 - min |s| 1) * (1 - min |s| 1) * (1 + 2 * min |s| 1)

/-- The kernel's weight of a knot's scaled slope at distance `s` from the knot. -/
def tilt (s : ℝ) : ℝ := (1 - min |s| 1) * (1 - min |s| 1) * s

/-- The four cubic basis polynomials, at place `t` of an interval. -/
def h00 (t : ℝ) : ℝ := 2 * (t * t * t) - 3 * (t * t) + 1
def h10 (t : ℝ) : ℝ := t * t * t - 2 * (t * t) + t
def h01 (t : ℝ) : ℝ := -2 * (t * t * t) + 3 * (t * t)
def h11 (t : ℝ) : ℝ := t * t * t - t * t

/-- From its left knot, at place `t` of an interval, the weights are the basis polynomials of the left end. -/
theorem weights_left {t : ℝ} (h0 : 0 ≤ t) (h1 : t ≤ 1) : bump t = h00 t ∧ tilt t = h10 t := by
  unfold bump tilt h00 h10
  rw [abs_of_nonneg h0, min_eq_left h1]
  constructor <;> ring

/-- From its right knot they are those of the right end. -/
theorem weights_right {t : ℝ} (h0 : 0 ≤ t) (h1 : t ≤ 1) : bump (t - 1) = h01 t ∧ tilt (t - 1) = h11 t := by
  unfold bump tilt h01 h11
  rw [abs_of_nonpos (by linarith), min_eq_left (by linarith)]
  constructor <;> ring

/-- At distance one or more they vanish. -/
theorem weights_far {s : ℝ} (h : 1 ≤ |s|) : bump s = 0 ∧ tilt s = 0 := by
  unfold bump tilt
  rw [min_eq_right h]
  constructor <;> ring

/-- A sum over the knots against a weight that is `a` at the left knot of interval `n`, `b` at its right knot and 0
    elsewhere. -/
theorem sum_two (n : Fin 63) (W : Fin 64 → ℝ) (C : Fin 64 → EReal) (hf : ∀ k, k ≠ n.castSucc → k ≠ n.succ → W k = 0) :
    (∑ k : Fin 64, ((W k : ℝ) : EReal) * C k)
      = ((W n.castSucc : ℝ) : EReal) * C n.castSucc + ((W n.succ : ℝ) : EReal) * C n.succ := by
  have hne : n.castSucc ≠ n.succ := by
    intro h
    have := congrArg Fin.val h
    simp at this
  rw [← Finset.sum_pair (f := fun k => ((W k : ℝ) : EReal) * C k) hne]
  refine (Finset.sum_subset (Finset.subset_univ _) fun k _ hk => ?_).symm
  rw [Finset.mem_insert, Finset.mem_singleton, not_or] at hk
  rw [hf k hk.1 hk.2, EReal.coe_zero, zero_mul]

/-- The cubic on interval `n` at place `t`, from the values `C` and the slopes `D` at the knots. -/
def cubic (t : ℝ) (n : Fin 63) (C D : Fin 64 → EReal) : EReal :=
  ((h00 t : ℝ) : EReal) * C n.castSucc + ((h10 t : ℝ) : EReal) * hh * D n.castSucc
    + ((h01 t : ℝ) : EReal) * C n.succ + ((h11 t : ℝ) : EReal) * hh * D n.succ

/-- At a point `u` (in intervals) of interval `n` the sums of the kernel's weights over all 64 knots are the cubic there. -/
theorem sum_weights {u : ℝ} (n : Fin 63) (hl : (n.val : ℝ) ≤ u) (hr : u ≤ n.val + 1) (C D : Fin 64 → EReal) :
    (∑ k : Fin 64, ((bump (u - k.val) : ℝ) : EReal) * C k) + (∑ k : Fin 64, ((tilt (u - k.val) : ℝ) : EReal) * (D k * hh))
      = cubic (u - n.val) n C D := by
  have h0 : 0 ≤ u - n.val := by linarith
  have h1 : u - n.val ≤ 1 := by linarith
  have far : ∀ k : Fin 64, k ≠ n.castSucc → k ≠ n.succ → 1 ≤ |u - (k.val : ℝ)| := by
    intro k ha hb
    have ha' : k.val ≠ n.val := fun e => ha (Fin.ext e)
    have hb' : k.val ≠ n.val + 1 := fun e => hb (Fin.ext e)
    rcases Nat.lt_or_gt_of_ne ha' with h | h
    · have : (k.val : ℝ) + 1 ≤ n.val := by exact_mod_cast h
      rw [abs_of_nonneg (by linarith)]; linarith
    · have : (n.val : ℝ) + 2 ≤ k.val := by exact_mod_cast (show n.val + 2 ≤ k.val by omega)
      rw [abs_of_nonpos (by linarith)]; linarith
  rw [sum_two n (fun k => bump (u - k.val)) C fun k ha hb => (weights_far (far k ha hb)).1,
    sum_two n (fun k => tilt (u - k.val)) _ fun k ha hb => (weights_far (far k ha hb)).2]
  have e1 : u - ((n.succ).val : ℝ) = u - n.val - 1 := by rw [Fin.val_succ]; push_cast; ring
  have e0 : u - ((n.castSucc).val : ℝ) = u - n.val := rfl
  simp only [e0, e1, (weights_left h0 h1).1, (weights_left h0 h1).2, (weights_right h0 h1).1, (weights_right h0 h1).2]
  unfold cubic
  generalize ((h00 (u - n.val) : ℝ) : EReal) = a, ((h10 (u - n.val) : ℝ) : EReal) = b,
    ((h01 (u - n.val) : ℝ) : EReal) = c, ((h11 (u - n.val) : ℝ) : EReal) = d
  ac_rfl

end Cert.Spline

end
-- ==== Proof.Given.lean ====
/- What the precondition says of the arguments: every sample is a real number between 0 and 1, and knot k is k/63. -/
module

public import proofs.«01_k».proof.Proof.Gen.Pre_uniform_unit
public import proofs.«01_k».proof.Proof.Scalars
public import Idealize.ShloMosaic.Lib.ReduceAll

@[expose] public section

set_option maxRecDepth 16384

noncomputable section

namespace Cert.Spline

open Idealize.ShloMosaic Idealize.ShloMosaic.TcCoe Idealize.SL.Sem
open Cert.Pre_uniform_unit

/-- A decision that prints as the bit one holds. -/
theorem bit_one {p : Bool} (h : BitVec.ofBool p = 1#1) : p = true := by
  cases p
  · exact absurd h (by decide)
  · rfl

/-- Under the precondition sample `(b, i)` lies between 0 and 1. -/
theorem sample_bounds (x : FVec Ideal S2048x64 .f32) (c : FVec Ideal S64x64x64 .f32) (bias kn : FVec Ideal S64 .f32)
    (h : Cert.Pre_uniform_unit.fn (F := Ideal) x c bias kn = fun _ => 1#1) (b : Fin 2048) (i : Fin 64) :
    0 ≤ x (ix2 b i) ∧ x (ix2 b i) ≤ 1 := by
  have h0 := congrFun h ix0
  unfold Cert.Pre_uniform_unit.fn at h0
  obtain ⟨h1, -⟩ := IntOp.andi_eq_one.1 h0
  have h2 := Host.reduce_andi_all _ _ _ _ _ h1 (ix2 b i)
  pointwise at h2
  obtain ⟨ha, hb⟩ := IntOp.andi_eq_one.1 h2
  exact ⟨of_decide_eq_true (bit_one ha), of_decide_eq_true (bit_one hb)⟩

/-- Under the precondition knot `k` is `k / 63`. -/
theorem knot_value (x : FVec Ideal S2048x64 .f32) (c : FVec Ideal S64x64x64 .f32) (bias kn : FVec Ideal S64 .f32)
    (h : Cert.Pre_uniform_unit.fn (F := Ideal) x c bias kn = fun _ => 1#1) (k : Fin 64) :
    kn (ix1 k) = (((k.val : ℝ) / 63 : ℝ) : EReal) := by
  have h0 := congrFun h ix0
  unfold Cert.Pre_uniform_unit.fn at h0
  obtain ⟨-, h1⟩ := IntOp.andi_eq_one.1 h0
  have h2 := Host.reduce_andi_all _ _ _ _ _ h1 (ix1 k)
  pointwise at h2
  have h3 := of_decide_eq_true (bit_one h2)
  rw [h3, ofBits_63, div_real _ (by norm_num)]
  rw [sitofp_nat (lt_trans k.isLt (by norm_num)), ← EReal.coe_mul]
  rfl

/-- Under the precondition sample `(b, i)` is a real number between 0 and 1. -/
theorem sample_real (x : FVec Ideal S2048x64 .f32) (c : FVec Ideal S64x64x64 .f32) (bias kn : FVec Ideal S64 .f32)
    (h : Cert.Pre_uniform_unit.fn (F := Ideal) x c bias kn = fun _ => 1#1) (b : Fin 2048) (i : Fin 64) :
    ∃ r : ℝ, 0 ≤ r ∧ r ≤ 1 ∧ x (ix2 b i) = (r : EReal) := by
  obtain ⟨h0, h1⟩ := sample_bounds x c bias kn h b i
  obtain ⟨v, hv⟩ : ∃ v : EReal, x (ix2 b i) = v := ⟨_, rfl⟩
  rw [hv] at h0 h1 ⊢
  clear hv
  induction v with
  | bot => exact absurd h0 (by simp)
  | top => exact absurd h1 (by rw [top_le_iff]; exact EReal.coe_ne_top 1)
  | coe r => exact ⟨r, by exact_mod_cast h0, by exact_mod_cast h1, rfl⟩

end Cert.Spline

end
-- ==== Proof.BlockSlopes.lean ====
/- The slopes the kernel keeps: what its first block stores, read at an element. Column `i · 64 + k` of the coefficients'
   row `o` is knot `k` of the spline from input `i` to output `o`. -/
module

public import proofs.«01_k».proof.Proof.Gen.KernelIdeal.Skeleton
public import proofs.«01_k».proof.Proof.Scalars

@[expose] public section

set_option maxRecDepth 16384

noncomputable section

namespace Cert.Spline

open Idealize.ShloMosaic Idealize.ShloMosaic.TcCoe Idealize.SL.Sem
open Cert.KernelIdeal Cert.KernelIdeal.Gen

/-- The column of knot `k` of input `i`. -/
def column (i k : Fin 64) : Fin 4096 := ⟨i.val * 64 + k.val, by omega⟩

/-- The values at the knots of the spline from input `i` to output `o`. -/
def rowOf (C : FVec Ideal S64x4096 .f32) (o i : Fin 64) : Fin 64 → EReal := fun k => C (ix2 o (column i k))

/-- What the kernel stores in its scratch, from the coefficients `C` and the knots `K`. -/
def slopesK (C : FVec Ideal S64x4096 .f32) (K : FVec Ideal S1x64 .f32) : FVec Ideal S64x4096 .f32 :=
  k0_pay18 (F := Ideal) (k0_pay2 K) (k0_pay12 (k0_pay9 (F := Ideal) C K) (k0_pay10 C K) k0_pay11)
    (k0_pay14 (k0_pay2 K) (k0_pay5 C K) (k0_pay8 C K)) (k0_pay15 (k0_pay2 K) (k0_pay6 C K) (k0_pay7 C K))
    (k0_pay16 k0_pay3) (k0_pay17 k0_pay3)

variable (C : FVec Ideal S64x4096 .f32) (K : FVec Ideal S1x64 .f32) (hK : K (ix2 0 1) - K (ix2 0 0) = hh)

/-- The small number and the spacing add to a nonzero real. -/
theorem spacing_real : ∃ r : ℝ, r ≠ 0 ∧ hh + eps = (r : EReal) := by
  obtain ⟨e, h0, -, he⟩ := eps_real
  exact ⟨1 / 63 + e, by positivity, by rw [he, hh, ← EReal.coe_add]⟩

include hK in
/-- The scaled differences, at a column that is not a spline's last: the secant slope to its right. -/
theorem pay5_at (o i : Fin 64) (k : Fin 63) :
    k0_pay5 (F := Ideal) C K (ix2 o (column i k.castSucc)) = delta (rowOf C o i) k := by
  pointwise [k0_pay5, k0_pay4, k0_pay2]
  have hc : ((column i k.castSucc : Fin 4096) : ℕ) < 4095 := by
    show i.val * 64 + k.val < 4095
    omega
  rw [dif_pos hc, hK]
  obtain ⟨r, hr, he⟩ := spacing_real
  show _ * Ideal.div 1 (hh + eps) = _
  unfold delta
  rw [he, mul_one_div _ hr]
  refine congrArg (fun v => Ideal.div (v - _) _) (congrArg (fun j => C (ix2 o j)) (Fin.ext ?_))
  show 1 + (i.val * 64 + k.val) = i.val * 64 + (k.val + 1)
  omega

include hK in
/-- The same shifted one column to the right: the secant slope to the left. -/
theorem pay6_at (o i : Fin 64) (k : Fin 63) :
    k0_pay6 (F := Ideal) C K (ix2 o (column i k.succ)) = delta (rowOf C o i) k := by
  pointwise [k0_pay6, k0_pay4]
  have hc : ¬ ((column i k.succ : Fin 4096) : ℕ) < 1 := by
    show ¬ i.val * 64 + (k.val + 1) < 1
    omega
  rw [dif_neg hc, ← pay5_at C K hK o i k]
  refine congrArg (fun j => k0_pay5 (F := Ideal) C K (ix2 o j)) (Fin.ext ?_)
  show i.val * 64 + (k.val + 1) - 1 = i.val * 64 + k.val
  omega

include hK in
/-- Shifted two columns to the right, at a spline's last column. -/
theorem pay7_at (o i : Fin 64) : k0_pay7 (F := Ideal) C K (ix2 o (column i 63)) = delta (rowOf C o i) 61 := by
  pointwise [k0_pay7]
  have hc : ¬ ((column i 63 : Fin 4096) : ℕ) < 2 := by
    show ¬ i.val * 64 + 63 < 2
    omega
  rw [dif_neg hc, ← pay5_at C K hK o i 61]
  refine congrArg (fun j => k0_pay5 (F := Ideal) C K (ix2 o j)) (Fin.ext ?_)
  show i.val * 64 + 63 - 2 = i.val * 64 + 61
  omega

include hK in
/-- Shifted one column to the left, at a spline's first column. -/
theorem pay8_at (o i : Fin 64) : k0_pay8 (F := Ideal) C K (ix2 o (column i 0)) = delta (rowOf C o i) 1 := by
  pointwise [k0_pay8, k0_pay4]
  have hc : ((column i 0 : Fin 4096) : ℕ) < 4095 := by
    show i.val * 64 + 0 < 4095
    omega
  rw [dif_pos hc, ← pay5_at C K hK o i 1]
  refine congrArg (fun j => k0_pay5 (F := Ideal) C K (ix2 o j)) (Fin.ext ?_)
  show 1 + (i.val * 64 + 0) = i.val * 64 + 1
  omega

include hK in
/-- The interior slope. -/
theorem pay12_at (o : Fin 64) (j : Fin 4096) :
    k0_pay12 (F := Ideal) (k0_pay9 (F := Ideal) C K) (k0_pay10 C K) k0_pay11 (ix2 o j)
      = inner (k0_pay6 (F := Ideal) C K (ix2 o j)) (k0_pay5 (F := Ideal) C K (ix2 o j)) := by
  pointwise [k0_pay12, k0_pay9, k0_pay10, k0_pay11, k0_pay2]
  rw [hK, ofBits_3]
  rfl

include hK in
/-- The slope at a first knot, from the secants in `a` and `b`. -/
theorem pay14_at (a b : FVec Ideal S64x4096 .f32) (o : Fin 64) (j : Fin 4096) :
    k0_pay14 (F := Ideal) (k0_pay2 K) a b (ix2 o j) = edge (a (ix2 o j)) (b (ix2 o j)) := by
  pointwise [k0_pay14, k0_pay13, k0_pay2]
  rw [hK, ofBits_3, ofBits_2]
  rfl

include hK in
/-- The slope at a last knot, likewise. -/
theorem pay15_at (a b : FVec Ideal S64x4096 .f32) (o : Fin 64) (j : Fin 4096) :
    k0_pay15 (F := Ideal) (k0_pay2 K) a b (ix2 o j) = edge (a (ix2 o j)) (b (ix2 o j)) := by
  pointwise [k0_pay15, k0_pay13, k0_pay2]
  rw [hK, ofBits_3, ofBits_2]
  rfl

/-- A column's low six bits are its knot. -/
theorem low_bits (i k : Fin 64) : IntOp.andi (BitVec.ofNat 32 (column i k).val) 63#32 = BitVec.ofNat 32 k.val := by
  apply BitVec.eq_of_toNat_eq
  show (BitVec.ofNat 32 (i.val * 64 + k.val) &&& 63#32).toNat = _
  rw [BitVec.toNat_and, BitVec.toNat_ofNat, BitVec.toNat_ofNat, BitVec.toNat_ofNat,
    Nat.mod_eq_of_lt (show i.val * 64 + k.val < 2 ^ 32 by omega), Nat.mod_eq_of_lt (show k.val < 2 ^ 32 by omega)]
  show (i.val * 64 + k.val) &&& (2 ^ 6 - 1) = k.val
  rw [Nat.and_two_pow_sub_one_eq_mod]
  omega

/-- Whether a column is a given knot's. -/
theorem is_knot (i k : Fin 64) (n : ℕ) (hn : n < 64) :
    IntOp.cmpi .eq (IntOp.andi (BitVec.ofNat 32 (column i k).val) 63#32) (BitVec.ofNat 32 n) = BitVec.ofBool (decide (k.val = n)) := by
  rw [low_bits]
  show BitVec.ofBool (BitVec.ofNat 32 k.val == BitVec.ofNat 32 n) = _
  congr 1
  rw [Bool.eq_iff_iff, beq_iff_eq, decide_eq_true_iff]
  constructor
  · intro h
    have := congrArg BitVec.toNat h
    rw [BitVec.toNat_ofNat, BitVec.toNat_ofNat, Nat.mod_eq_of_lt (show k.val < 2 ^ 32 by omega), Nat.mod_eq_of_lt (show n < 2 ^ 32 by omega)] at this
    exact this
  · rintro rfl; rfl

include hK in
/-- THE SCRATCH at a column: the slope of the column's spline at its knot, times the spacing. -/
theorem slopesK_at (o i k : Fin 64) : slopesK C K (ix2 o (column i k)) = slope (rowOf C o i) k * hh := by
  unfold slopesK
  pointwise [k0_pay18, k0_pay16, k0_pay17, k0_pay3]
  rw [is_knot i k 0 (by omega), is_knot i k 63 (by omega), Scalar.select_decide, Scalar.select_decide,
    pay12_at C K hK, pay14_at K hK, pay15_at K hK]
  have e2 : k0_pay2 (F := Ideal) K (ix2 0 0) = hh := by
    pointwise [k0_pay2]
    exact hK
  rw [e2]
  refine congrArg (· * hh) ?_
  unfold slope
  by_cases h0 : k.val = 0
  · obtain rfl : k = 0 := Fin.ext h0
    rw [if_pos h0, dif_pos h0, pay8_at C K hK, ← pay5_at C K hK o i 0]
    rfl
  · rw [if_neg h0, dif_neg h0]
    by_cases h1 : k.val = 63
    · obtain rfl : k = 63 := Fin.ext h1
      rw [if_pos h1, dif_pos h1, pay7_at C K hK, ← pay6_at C K hK o i 62]
      rfl
    · rw [if_neg h1, dif_neg h1, ← pay6_at C K hK o i ⟨k.val - 1, by omega⟩, ← pay5_at C K hK o i ⟨k.val, by omega⟩]
      have e : (⟨k.val - 1, by omega⟩ : Fin 63).succ = k := Fin.ext (by show k.val - 1 + 1 = k.val; omega)
      rw [e]
      rfl

end Cert.Spline

end
-- ==== Proof.BlockValue.lean ====
/- What one block of the kernel computes, read at an element: the weights at a column, and the output as a sum over
   inputs of the cubic on the sample's interval. -/
module

public import proofs.«01_k».proof.Proof.BlockSlopes

@[expose] public section

set_option maxRecDepth 16384

noncomputable section

namespace Cert.Spline

open Idealize.ShloMosaic Idealize.ShloMosaic.TcCoe Idealize.SL.Sem
open Cert.KernelIdeal Cert.KernelIdeal.Gen

/-- A column's high bits are its input. -/
theorem high_bits (i k : Fin 64) : IntOp.shrsi ArithUnit.vector (BitVec.ofNat 32 (column i k).val) 6#32 = BitVec.ofNat 32 i.val := by
  have h : ∀ j : Fin 4096, IntOp.shrsi ArithUnit.vector (BitVec.ofNat 32 j.val) 6#32 = BitVec.ofNat 32 (j.val / 64) := by decide +kernel
  rw [h]
  congr 1
  show (i.val * 64 + k.val) / 64 = i.val
  omega

/-- Whether a column is a given input's, as a float: one or zero. -/
theorem is_input (i k a : Fin 64) :
    FloatOps.sitofp (F := Ideal) .f32 (BitVec.setWidth 32 (IntOp.cmpi .eq (IntOp.shrsi ArithUnit.vector (BitVec.ofNat 32 (column i k).val) 6#32) (BitVec.ofNat 32 a.val)))
      = if a = i then 1 else 0 := by
  rw [high_bits]
  have h : ∀ i a : Fin 64, BitVec.setWidth 32 (IntOp.cmpi .eq (BitVec.ofNat 32 i.val) (BitVec.ofNat 32 a.val)) = BitVec.ofNat 32 (if a = i then 1 else 0) := by
    decide +kernel
  rw [h]
  by_cases e : a = i
  · rw [if_pos e, if_pos e, sitofp_nat (by norm_num)]; norm_num
  · rw [if_neg e, if_neg e, sitofp_nat (by norm_num)]; norm_num

variable (x : FVec Ideal S512x64 .f32) (b : Fin 512) (r : Fin 64 → ℝ) (h0 : ∀ i, 0 ≤ r i) (h1 : ∀ i, r i ≤ 1)
  (hx : ∀ i, x (ix2 b i) = ((r i : ℝ) : EReal))

include h0 h1 hx in
/-- The signed distance, in intervals, of a column's sample from the column's knot. -/
theorem pay19_at (i k : Fin 64) : k0_pay19 (F := Ideal) x (ix2 b (column i k)) = ((63 * r i - k.val : ℝ) : EReal) := by
  pointwise [k0_pay19]
  have hs : FloatOps.sitofp (F := Ideal) .f32 (IntOp.andi (BitVec.ofNat 32 (column i k).val) 63#32) = ((k.val : ℝ) : EReal) := by
    rw [low_bits, sitofp_nat (lt_trans k.isLt (by norm_num))]
  have hu : ∀ a : Fin 64, min (1 : EReal) (max 0 (x (ix2 b a))) * Ideal.ofBits .f32 0x427C0000#32 = ((63 * r a : ℝ) : EReal) := by
    intro a
    rw [hx a, max_eq_right (by exact_mod_cast h0 a), min_eq_right (by exact_mod_cast h1 a), ofBits_63, ← EReal.coe_mul, mul_comm]
  rw [hs]
  simp only [is_input]
  simp only [hu]
  simp only [← EReal.coe_sub, sub_self, EReal.coe_zero, zero_mul, Finset.sum_const_zero, add_zero, mul_ite, mul_one, mul_zero,
    Finset.sum_ite_eq', Finset.mem_univ, if_true]

include h0 h1 hx in
/-- The weight of a column's value. -/
theorem pay22_at (i k : Fin 64) : k0_pay22 (F := Ideal) x (ix2 b (column i k)) = ((bump (63 * r i - k.val) : ℝ) : EReal) := by
  pointwise [k0_pay22, k0_pay21, k0_pay20]
  rw [pay19_at x b r h0 h1 hx, absf_real, ofBits_2, ← EReal.coe_one, ← EReal.coe_strictMono.monotone.map_min]
  simp only [← EReal.coe_sub, ← EReal.coe_mul, ← EReal.coe_add]
  rfl

include h0 h1 hx in
/-- The weight of a column's scaled slope. -/
theorem pay23_at (i k : Fin 64) : k0_pay23 (F := Ideal) x (ix2 b (column i k)) = ((tilt (63 * r i - k.val) : ℝ) : EReal) := by
  pointwise [k0_pay23, k0_pay21, k0_pay20]
  rw [pay19_at x b r h0 h1 hx, absf_real, ← EReal.coe_one, ← EReal.coe_strictMono.monotone.map_min]
  simp only [← EReal.coe_sub, ← EReal.coe_mul, ← EReal.coe_add]
  rfl

/-- A sum over the columns is a sum over the inputs of sums over the knots. -/
theorem sum_columns (f : Fin 4096 → EReal) : ∑ j : Fin 4096, f j = ∑ i : Fin 64, ∑ k : Fin 64, f (column i k) :=
  Fin.sum_univ_tiles 64 64 rfl f

include h0 h1 hx in
/-- THE BLOCK'S OUTPUT at an element, over any scratch that holds the scaled slopes: per input the cubic on an interval `n i`
    that holds the sample, summed, plus the bias. -/
theorem pay1_at (C H : FVec Ideal S64x4096 .f32) (B : FVec Ideal S1x64 .f32) (o : Fin 64) (D : Fin 64 → Fin 64 → EReal)
    (hH : ∀ i k, H (ix2 o (column i k)) = D i k * hh) (n : Fin 64 → Fin 63)
    (hl : ∀ i, ((n i).val : ℝ) ≤ 63 * r i) (hr : ∀ i, 63 * r i ≤ (n i).val + 1) :
    k0_pay1 (F := Ideal) (k0_pay22 x) (k0_pay23 x) C H B (ix2 b o)
      = (∑ i, cubic (63 * r i - (n i).val) (n i) (rowOf C o i) (D i)) + B (ix2 0 o) := by
  pointwise [k0_pay1]
  refine congrArg (· + _) ?_
  rw [sum_columns, sum_columns, ← Finset.sum_add_distrib]
  refine Finset.sum_congr rfl fun i _ => ?_
  rw [← sum_weights (n i) (hl i) (hr i)]
  refine congrArg₂ (· + ·) (Finset.sum_congr rfl fun k _ => ?_) (Finset.sum_congr rfl fun k _ => ?_)
  · rw [pay22_at x b r h0 h1 hx]; rfl
  · rw [pay23_at x b r h0 h1 hx, hH]

end Cert.Spline

end
-- ==== Proof.Answer.lean ====
/- What both programs compute: for every sample and output, the sum over the inputs of the cubic on the sample's
   interval, plus the bias. -/
module

public import proofs.«01_k».proof.Proof.Scalars

@[expose] public section

noncomputable section

namespace Cert.Spline

open Idealize.ShloMosaic

/-- The interval between knots that holds the sample `r`: the last knot strictly below it (the first interval for `r = 0`). -/
def cell (r : ℝ) : Fin 63 := ⟨min 62 (⌈63 * r⌉₊ - 1), by omega⟩

/-- There are at most 63 knots strictly below a sample in [0, 1]. -/
theorem ceil_le {r : ℝ} (h1 : r ≤ 1) : ⌈63 * r⌉₊ ≤ 63 := Nat.ceil_le.2 (by norm_num; linarith)

/-- The cell's number for a sample in [0, 1]. -/
theorem cell_val {r : ℝ} (h1 : r ≤ 1) : (cell r).val = ⌈63 * r⌉₊ - 1 := by
  have := ceil_le h1
  show min 62 (⌈63 * r⌉₊ - 1) = _
  omega

/-- The cell starts at or before the sample. -/
theorem cell_left {r : ℝ} (h0 : 0 ≤ r) (h1 : r ≤ 1) : ((cell r).val : ℝ) ≤ 63 * r := by
  rw [cell_val h1]
  by_cases hz : ⌈63 * r⌉₊ = 0
  · rw [hz]; norm_num; exact h0
  · have : ⌈63 * r⌉₊ - 1 < ⌈63 * r⌉₊ := by omega
    exact (Nat.lt_ceil.1 this).le

/-- The cell ends at or after the sample. -/
theorem cell_right {r : ℝ} (h1 : r ≤ 1) : 63 * r ≤ (cell r).val + 1 := by
  rw [cell_val h1]
  refine (Nat.le_ceil (63 * r)).trans ?_
  have : ⌈63 * r⌉₊ ≤ (⌈63 * r⌉₊ - 1) + 1 := by omega
  exact_mod_cast this

/-- THE ANSWER at sample `b` and output `o`, from the samples `x`, the values at the knots `c` and the bias. -/
def answer (x : Fin 2048 → Fin 64 → ℝ) (c : Fin 64 → Fin 64 → Fin 64 → EReal) (bias : Fin 64 → EReal) (b : Fin 2048) (o : Fin 64) : EReal :=
  (∑ i, cubic (63 * x b i - (cell (x b i)).val) (cell (x b i)) (c o i) (slope (c o i))) + bias o

end Cert.Spline

end
-- ==== Proof.KernelArray.lean ====
/- What the kernel's result holds after the run, read at an element, for samples in [0, 1] and evenly spaced knots. -/
module

public import proofs.«01_k».proof.Proof.Gen.KernelIdeal.Value
public import proofs.«01_k».proof.Proof.BlockValue
public import proofs.«01_k».proof.Proof.Answer
public import Idealize.ShloMosaic.Lib.Pipeline.ValueKit
public import Idealize.ShloMosaic.Lib.Pipeline.ReadBack

@[expose] public section

set_option maxRecDepth 16384

noncomputable section

namespace Cert.Spline

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The kernel's arguments on a device. -/
def argX : FVec Ideal S2048x64 .f32 := m ((c : Thread nD τ).loc main_arg0)
def argC : FVec Ideal S64x64x64 .f32 := m ((c : Thread nD τ).loc main_arg1)
def argB : FVec Ideal S64 .f32 := m ((c : Thread nD τ).loc main_arg2)
def argK : FVec Ideal S64 .f32 := m ((c : Thread nD τ).loc main_arg3)

/-- Which block of its array each window shows at a point. -/
theorem idx : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = t.val ∧ win0_4.index t 1 = 0 := by decide +kernel

/-- The whole block of coefficients holds every spline's values side by side. -/
theorem block_coeffs (t : Fin cfg0.N) (o i k : Fin 64) : (iblk m c 1 t : FVec Ideal S64x4096 .f32) (ix2 o (column i k)) = argC m c (ix3 o i k) := by
  blk_simp [iblk, idx t]
  entry_read
  pointwise
  unfold argC
  blk_ext [idx t, column]

/-- The whole block of knots. -/
theorem block_knots (t : Fin cfg0.N) (k : Fin 64) : (iblk m c 2 t : FVec Ideal S1x64 .f32) (ix2 0 k) = argK m c (ix1 k) := by
  blk_simp [iblk, idx t]
  entry_read
  pointwise
  unfold argK
  blk_ext [idx t, column]

/-- The whole block of biases. -/
theorem block_bias (t : Fin cfg0.N) (o : Fin 64) : (iblk m c 3 t : FVec Ideal S1x64 .f32) (ix2 0 o) = argB m c (ix1 o) := by
  blk_simp [iblk, idx t]
  entry_read
  pointwise
  unfold argB
  blk_ext [idx t, column]

/-- The sample that point `t` meets at its block's row `b`. -/
def row (t : Fin cfg0.N) (b : Fin 512) : Fin 2048 := ⟨t.val * 512 + b.val, by have := t.isLt; have := b.isLt; have : cfg0.N = 4 := N_0; omega⟩

/-- A block of samples. -/
theorem block_samples (t : Fin cfg0.N) (b : Fin 512) (i : Fin 64) :
    (iblk m c 0 t : FVec Ideal S512x64 .f32) (ix2 b i) = argX m c (ix2 (row t b) i) := by
  unfold argX
  blk_ext! [iblk, V, idx t, row]

/-- The values at the knots of the spline from input `i` to output `o`, in the argument. -/
def valuesOf (o i : Fin 64) : Fin 64 → EReal := fun k => argC m c (ix3 o i k)

/-- The same values, in the block. -/
theorem rowOf_block (t : Fin cfg0.N) (o i : Fin 64) : rowOf (iblk m c 1 t) o i = valuesOf m c o i :=
  funext fun k => block_coeffs m c t o i k

variable (hk : argK m c (ix1 1) - argK m c (ix1 0) = hh)

/-- The block of knots at a point. -/
def knotsBlock (t : Fin cfg0.N) : FVec Ideal S1x64 .f32 := iblk m c 2 t

include hk in
/-- The first two knots of any block are one spacing apart. -/
theorem spacing_block (t : Fin cfg0.N) : knotsBlock m c t (ix2 0 1) - knotsBlock m c t (ix2 0 0) = hh := by
  rw [show knotsBlock m c t (ix2 0 1) = _ from block_knots m c t 1, show knotsBlock m c t (ix2 0 0) = _ from block_knots m c t 0]
  exact hk

include hk in
/-- THE SCRATCH after every point: the scaled slopes, stored at the first point and kept. -/
theorem scratch_at : ∀ (n : ℕ) (hn : n < cfg0.N) (o i k : Fin 64),
    (outsAt0 m c n hn).2 (ix2 o (column i k)) = slope (valuesOf m c o i) k * hh := by
  have step : ∀ (n : ℕ) (hn : n < cfg0.N), n % 4 = 0 → ∀ o i k : Fin 64,
      (outsAt0 m c n hn).2 (ix2 o (column i k)) = slope (valuesOf m c o i) k * hh := by
    intro n hn h o i k
    rw [outsAt0_A m c ⟨n, hn⟩ h]
    frame_out
    rw [← rowOf_block m c ⟨n, hn⟩]
    exact slopesK_at _ (knotsBlock m c ⟨n, hn⟩) (spacing_block m c hk ⟨n, hn⟩) o i k
  intro n
  induction n with
  | zero => intro hn; exact step 0 hn rfl
  | succ n ih =>
    intro hn o i k
    by_cases h : (n + 1) % 4 = 0
    · exact step _ hn h o i k
    · rw [outsAt0_B m c ⟨n + 1, hn⟩ h]
      exact ih (Nat.lt_of_succ_lt hn) o i k

variable (hx : ∀ b i, ∃ r : ℝ, 0 ≤ r ∧ r ≤ 1 ∧ argX m c (ix2 b i) = (r : EReal))

/-- The samples as reals. -/
def samples : Fin 2048 → Fin 64 → ℝ := fun b i => (argX m c (ix2 b i)).toReal

include hx in
/-- The samples are reals in [0, 1]. -/
theorem samples_spec (b : Fin 2048) (i : Fin 64) :
    0 ≤ samples m c b i ∧ samples m c b i ≤ 1 ∧ argX m c (ix2 b i) = (samples m c b i : EReal) := by
  obtain ⟨r, h0, h1, h⟩ := hx b i
  have e : samples m c b i = r := by rw [samples, h, EReal.toReal_coe]
  rw [e]
  exact ⟨h0, h1, h⟩

include hk hx in
/-- THE BLOCK written at a point. -/
theorem out_at (t : Fin cfg0.N) (b : Fin 512) (o : Fin 64) :
    (outsAt0 m c t.val t.isLt).1 (ix2 b o) = answer (samples m c) (valuesOf m c) (fun o => argB m c (ix1 o)) (row t b) o := by
  have main : ∀ H : FVec Ideal S64x4096 .f32, (∀ i k, H (ix2 o (column i k)) = slope (valuesOf m c o i) k * hh) →
      k0_pay1 (F := Ideal) (k0_pay22 (iblk m c 0 t)) (k0_pay23 (iblk m c 0 t)) (iblk m c 1 t) H (iblk m c 3 t) (ix2 b o)
        = answer (samples m c) (valuesOf m c) (fun o => argB m c (ix1 o)) (row t b) o := by
    intro H hH
    have hs := samples_spec m c hx (row t b)
    refine (pay1_at (iblk m c 0 t) b (samples m c (row t b)) (fun i => (hs i).1) (fun i => (hs i).2.1)
      (fun i => (block_samples m c t b i).trans (hs i).2.2) (iblk m c 1 t) H (iblk m c 3 t) o (fun i => slope (valuesOf m c o i)) hH
      (fun i => cell (samples m c (row t b) i)) (fun i => cell_left (hs i).1 (hs i).2.1) (fun i => cell_right (hs i).2.1)).trans ?_
    rw [block_bias]
    simp only [rowOf_block]
    rfl
  by_cases h : t.val % 4 = 0
  · have hs := scratch_at m c hk t.val t.isLt o
    rw [outsAt0_A m c t h] at hs ⊢
    revert hs
    frame_out
    exact fun hs => main _ hs
  · have hs := scratch_at m c hk (t.val - 1) (Nat.lt_of_le_of_lt (Nat.sub_le _ _) t.isLt) o
    rw [outsAt0_B m c t h]
    frame_out
    simp only [read_unread_whole]
    exact main _ hs

include hk hx in
/-- THE KERNEL'S RESULT after the run, as an array. -/
theorem array_eq : (dats m 0 c).arrAt 4 cfg0.N
    = fun j : S2048x64.Idx => answer (samples m c) (valuesOf m c) (fun o => argB m c (ix1 o)) (j 0) (j 1) := by
  refine (dats m 0 c).arrAt_eq_of_covers 4 _ (by decide +kernel) fun t hf y => ?_
  blk_simp
  rw [after0_4]
  idx_vars y
  have e : ((View.whole main_v3).slice (win0_4.rect t)).emb (ix2 y0 y1) = ix2 (row t y0) y1 := by blk_ext [idx t, row]
  rw [e]
  exact out_at m c hk hx t y0 y1

end Cert.Spline

end
-- ==== Proof.Lookup.lean ====
/- The reference's two lookups by number, read at an element: in the vector of knots, and in a table over (input, knot). -/
module

public import proofs.«01_k».proof.Proof.Gen.ReferenceIdeal.Run
public import proofs.«01_k».proof.Proof.Scalars

@[expose] public section

set_option maxRecDepth 16384

noncomputable section

namespace Cert.Spline

open Idealize.ShloMosaic Idealize.ShloMosaic.TcCoe Idealize.SL.Sem
open Cert.ReferenceIdeal

variable [Facts₀]

/-- A word below 64 read as a start index and kept in range is itself. -/
theorem start_word (n : Fin 64) : min (BitVec.ofNat 32 n.val).toInt.toNat (64 - 1) = n.val := by
  rw [toInt_nat (lt_trans n.isLt (by norm_num))]
  have := n.isLt
  simp only [Int.toNat_natCast]
  omega

/-- The lookup in the vector: where the numbers hold `n` the result is entry `n`. -/
theorem lookup_vector (x : FVec Ideal S64 .f32) (idx : IVec S2048x64x1 32) (b : Fin 2048) (i n : Fin 64)
    (h : idx (ix3 b i 0) = BitVec.ofNat 32 n.val) :
    Host.gather gather_S64_S2048x64x1_S2048x64_n_0_n_n_0_2_1 x idx (ix2 b i) = x (ix1 n) := by
  unfold Host.gather
  refine congrArg x (funext fun a => Fin.ext ?_)
  obtain rfl : a = (0 : Fin 1) := Subsingleton.elim (α := Fin 1) a 0
  have e : (gather_S64_S2048x64x1_S2048x64_n_0_n_n_0_2_1).siIdx (ix2 b i) ⟨0, Nat.zero_lt_one⟩ = ix3 b i 0 := by
    funext k
    match k with
    | ⟨0, _⟩ => rfl
    | ⟨1, _⟩ => rfl
    | ⟨2, _⟩ => rfl
  show min (idx ((gather_S64_S2048x64x1_S2048x64_n_0_n_n_0_2_1).siIdx (ix2 b i) ⟨0, _⟩)).toInt.toNat (64 - 1) + 0 + 0 = n.val
  rw [e, h]
  exact start_word n

/-- The lookup in the table: where the numbers hold the pair (`p`, `q`) the result is the table's row at that pair. -/
theorem lookup_table (x : FVec Ideal S64x64x64 .f32) (idx : IVec S2048x64x2 32) (b : Fin 2048) (i o p q : Fin 64)
    (hp : idx (ix3 b i 0) = BitVec.ofNat 32 p.val) (hq : idx (ix3 b i 1) = BitVec.ofNat 32 q.val) :
    Host.gather gather_S64x64x64_S2048x64x2_S2048x64x64_2_01_n_n_01_2_1164 x idx (ix3 b i o) = x (ix3 p q o) := by
  unfold Host.gather
  refine congrArg x (funext fun a => Fin.ext ?_)
  have e0 : (gather_S64x64x64_S2048x64x2_S2048x64x64_2_01_n_n_01_2_1164).siIdx (ix3 b i o) ⟨0, Nat.zero_lt_two⟩ = ix3 b i 0 := by
    funext k
    match k with
    | ⟨0, _⟩ => rfl
    | ⟨1, _⟩ => rfl
    | ⟨2, _⟩ => rfl
  have e1 : (gather_S64x64x64_S2048x64x2_S2048x64x64_2_01_n_n_01_2_1164).siIdx (ix3 b i o) ⟨1, Nat.one_lt_two⟩ = ix3 b i 1 := by
    funext k
    match k with
    | ⟨0, _⟩ => rfl
    | ⟨1, _⟩ => rfl
    | ⟨2, _⟩ => rfl
  match a with
  | ⟨0, _⟩ =>
    show min (idx ((gather_S64x64x64_S2048x64x2_S2048x64x64_2_01_n_n_01_2_1164).siIdx (ix3 b i o) ⟨0, _⟩)).toInt.toNat (64 - 1) + 0 + 0 = p.val
    rw [e0, hp]
    exact start_word p
  | ⟨1, _⟩ =>
    show min (idx ((gather_S64x64x64_S2048x64x2_S2048x64x64_2_01_n_n_01_2_1164).siIdx (ix3 b i o) ⟨1, _⟩)).toInt.toNat (64 - 1) + 0 + 0 = q.val
    rw [e1, hq]
    exact start_word q
  | ⟨2, _⟩ =>
    show 0 + 0 + o.val = o.val
    omega

end Cert.Spline

end
-- ==== Proof.RefSlopes.lean ====
/- The slopes the reference computes, read at an element, when the knots are evenly spaced. -/
module

public import proofs.«01_k».proof.Proof.Gen.ReferenceIdeal.Run
public import proofs.«01_k».proof.Proof.Scalars
public import Idealize.ShloMosaic.Lib.Pointwise
public import Idealize.ShloMosaic.Lib.Tactic.CleanTypes

@[expose] public section

set_option maxRecDepth 16384

noncomputable section

namespace Cert.Spline

open Idealize.ShloMosaic Idealize.ShloMosaic.TcCoe Idealize.SL.Sem
open Cert.ReferenceIdeal Cert.ReferenceIdeal.Gen Cert.ReferenceIdeal.Value

variable (V0 : Valuation τ sig (Elt Ideal))

/-- The reference's arguments. -/
def refX : FVec Ideal S2048x64 .f32 := V0 (Proc.devRef .tc main_arg0)
def refC : FVec Ideal S64x64x64 .f32 := V0 (Proc.devRef .tc main_arg1)
def refB : FVec Ideal S64 .f32 := V0 (Proc.devRef .tc main_arg2)
def refK : FVec Ideal S64 .f32 := V0 (Proc.devRef .tc main_arg3)

/-- The values at the knots of the spline from input `i` to output `o`, in the reference's argument. -/
def refValues (o i : Fin 64) : Fin 64 → EReal := fun k => refC V0 (ix3 o i k)

variable (hK : ∀ k : Fin 64, refK V0 (ix1 k) = ((k.val / 63 : ℝ) : EReal))

include hK in
/-- Neighbouring knots are one spacing apart. -/
theorem v2_at (k : Fin 63) : (res_main_v2 (F := Ideal) V0 : FVec Ideal S63 .f32) (ix1 k) = hh := by
  unfold res_main_v2
  clean_types
  pointwise
  have e1 : V0 (Proc.devRef .tc main_arg3) (ix1 ⟨1 + k.val, by omega⟩) = (((1 + k.val : ℕ) / 63 : ℝ) : EReal) := hK _
  have e0 : V0 (Proc.devRef .tc main_arg3) (ix1 ⟨k.val, by omega⟩) = ((k.val / 63 : ℝ) : EReal) := hK _
  rw [e1, e0, ← EReal.coe_sub, hh]
  congr 1
  push_cast
  ring

include hK in
/-- The secant slopes. -/
theorem v10_at (o i : Fin 64) (k : Fin 63) :
    (res_main_v10 (F := Ideal) V0 : FVec Ideal S64x64x63 .f32) (ix3 o i k) = delta (refValues V0 o i) k := by
  unfold res_main_v10
  clean_types
  pointwise
  rw [v2_at V0 hK]
  refine congrArg (fun v => Ideal.div (v - _) _) (congrArg (fun j => refC V0 (ix3 o i j)) (Fin.ext ?_))
  show 1 + k.val = k.val + 1
  omega

/-- Twice a nonnegative real and once more is three times it. -/
theorem twice_add (x : ℝ) : ((2 : ℝ) : EReal) * (x : EReal) + (x : EReal) = ((3 : ℝ) : EReal) * (x : EReal) := by
  rw [← EReal.coe_mul, ← EReal.coe_add, ← EReal.coe_mul]
  congr 1
  ring

/-- The one-sided slope before limiting, as the reference writes it: the same as `edge`'s. -/
theorem raw_edge (a b : EReal) :
    Ideal.div ((((2 : ℝ) : EReal) * hh + hh) * a - hh * b) (hh + hh + eps)
      = (((3 : ℝ) : EReal) * a - b) * Ideal.div hh (((2 : ℝ) : EReal) * hh + eps) := by
  obtain ⟨e, h0, -, he⟩ := eps_real
  have hd : hh + hh + eps = ((2 / 63 + e : ℝ) : EReal) := by
    rw [he, hh, ← EReal.coe_add, ← EReal.coe_add]
    congr 1
    ring
  have hd' : ((2 : ℝ) : EReal) * hh + eps = ((2 / 63 + e : ℝ) : EReal) := by
    rw [he, hh, ← EReal.coe_mul, ← EReal.coe_add]
    congr 1
    ring
  have hn : (2 / 63 + e : ℝ) ≠ 0 := by positivity
  have h3 : (((2 : ℝ) : EReal) * hh + hh) * a = hh * (((3 : ℝ) : EReal) * a) := by
    rw [hh, twice_add, mul_comm ((3 : ℝ) : EReal), mul_assoc]
  rw [hd, hd', div_real _ hn, div_real _ hn, h3, hh, ← real_mul_sub (by norm_num), mul_comm (((1 / 63 : ℝ)) : EReal), mul_assoc]

include hK in
/-- The slope at the first knot before limiting. -/
theorem v67_at (o i : Fin 64) : (res_main_v67 (F := Ideal) V0 : FVec Ideal S64x64 .f32) (ix2 o i)
    = (((3 : ℝ) : EReal) * delta (refValues V0 o i) 0 - delta (refValues V0 o i) 1) * Ideal.div hh (((2 : ℝ) : EReal) * hh + eps) := by
  unfold res_main_v67
  clean_types
  pointwise
  rw [v2_at V0 hK, v2_at V0 hK, v10_at V0 hK, v10_at V0 hK, ofBits_2]
  exact raw_edge _ _

include hK in
/-- The slope at the last knot before limiting. -/
theorem v92_at (o i : Fin 64) : (res_main_v92 (F := Ideal) V0 : FVec Ideal S64x64 .f32) (ix2 o i)
    = (((3 : ℝ) : EReal) * delta (refValues V0 o i) 62 - delta (refValues V0 o i) 61) * Ideal.div hh (((2 : ℝ) : EReal) * hh + eps) := by
  unfold res_main_v92
  clean_types
  pointwise
  rw [v2_at V0 hK, v2_at V0 hK, v10_at V0 hK, v10_at V0 hK, ofBits_2]
  exact raw_edge _ _

include hK in
/-- The first secant slope. -/
theorem v94_at (o i : Fin 64) : (res_main_v94 (F := Ideal) V0 : FVec Ideal S64x64 .f32) (ix2 o i) = delta (refValues V0 o i) 0 := by
  unfold res_main_v94
  clean_types
  pointwise
  exact v10_at V0 hK o i 0

include hK in
/-- The last secant slope. -/
theorem v109_at (o i : Fin 64) : (res_main_v109 (F := Ideal) V0 : FVec Ideal S64x64 .f32) (ix2 o i) = delta (refValues V0 o i) 62 := by
  unfold res_main_v109
  clean_types
  pointwise
  exact v10_at V0 hK o i 62

include hK in
/-- The slope at the first knot, limited in full. -/
theorem first_at (o i : Fin 64) :
    (if Ideal.ofBits .f32 1077936128#32 * FloatOps.absf (F := Ideal) (φ := .f32) ((res_main_v94 (F := Ideal) V0 : FVec Ideal S64x64 .f32) (ix2 o i))
        < FloatOps.absf (F := Ideal) (φ := .f32) ((res_main_v99 (F := Ideal) V0 : FVec Ideal S64x64 .f32) (ix2 o i)) then
      Ideal.ofBits .f32 1077936128#32 * (res_main_v94 (F := Ideal) V0 : FVec Ideal S64x64 .f32) (ix2 o i)
    else (res_main_v99 (F := Ideal) V0 : FVec Ideal S64x64 .f32) (ix2 o i))
      = edge (delta (refValues V0 o i) 0) (delta (refValues V0 o i) 1) := by
  unfold res_main_v99
  clean_types
  pointwise
  rw [v67_at V0 hK, v94_at V0 hK, ofBits_3]
  rfl

include hK in
/-- The slope at the last knot, limited in full. -/
theorem last_at (o i : Fin 64) :
    (if Ideal.ofBits .f32 1077936128#32 * FloatOps.absf (F := Ideal) (φ := .f32) ((res_main_v109 (F := Ideal) V0 : FVec Ideal S64x64 .f32) (ix2 o i))
        < FloatOps.absf (F := Ideal) (φ := .f32) ((res_main_v114 (F := Ideal) V0 : FVec Ideal S64x64 .f32) (ix2 o i)) then
      Ideal.ofBits .f32 1077936128#32 * (res_main_v109 (F := Ideal) V0 : FVec Ideal S64x64 .f32) (ix2 o i)
    else (res_main_v114 (F := Ideal) V0 : FVec Ideal S64x64 .f32) (ix2 o i))
      = edge (delta (refValues V0 o i) 62) (delta (refValues V0 o i) 61) := by
  unfold res_main_v114
  clean_types
  pointwise
  rw [v92_at V0 hK, v109_at V0 hK, ofBits_3]
  rfl

include hK in
/-- The first weight of an interior slope: three spacings. -/
theorem v15_at (k : Fin 62) : (res_main_v15 (F := Ideal) V0 : FVec Ideal S62 .f32) (ix1 k) = w3 := by
  unfold res_main_v15 res_main_v12 res_main_v11
  clean_types
  pointwise
  rw [v2_at V0 hK, v2_at V0 hK, ofBits_2, w3, hh, twice_add]

include hK in
/-- The second weight, the same. -/
theorem v18_at (k : Fin 62) : (res_main_v18 (F := Ideal) V0 : FVec Ideal S62 .f32) (ix1 k) = w3 := by
  unfold res_main_v18 res_main_v12 res_main_v11
  clean_types
  pointwise
  rw [v2_at V0 hK, v2_at V0 hK, ofBits_2, w3, hh, add_comm, twice_add]

/-- The slope at an interior knot, as the reference writes it, from secant slopes `a` and `b` and weights of three spacings. -/
theorem mid_eq {P Q S T a b : EReal} (hP : P = a) (hQ : Q = b) (hS : S = w3) (hT : T = w3) :
    (if 0 < P * Q then
      Ideal.div (S + T) (Ideal.div S (P + Ideal.ofBits .f32 730643660#32) + Ideal.div T (Q + Ideal.ofBits .f32 730643660#32))
    else 0) = inner a b := by
  rw [hP, hQ, hS, hT]
  rfl

include hK in
/-- THE SLOPES, knot by knot, in the reference's order of axes (input, knot, output). -/
theorem v190_at (o i k : Fin 64) : (res_main_v190 (F := Ideal) V0 : FVec Ideal S64x64x64 .f32) (ix3 i k o) = slope (refValues V0 o i) k := by
  unfold res_main_v190
  clean_types
  pointwise
  rw [first_at V0 hK, last_at V0 hK]
  unfold slope
  by_cases h0 : k.val = 0
  · rw [dif_pos (by omega), dif_pos h0]
  · rw [dif_neg (by omega), dif_neg h0]
    by_cases h1 : k.val = 63
    · rw [dif_neg (by omega), dif_pos h1]
    · rw [dif_pos (by omega), dif_neg h1]
      have e : (⟨1 + (k.val - 1), by omega⟩ : Fin 63) = ⟨k.val, by omega⟩ := Fin.ext (by show 1 + (k.val - 1) = k.val; omega)
      exact mid_eq (v10_at V0 hK o i ⟨k.val - 1, by omega⟩)
        ((v10_at V0 hK o i ⟨1 + (k.val - 1), by omega⟩).trans (congrArg (delta (refValues V0 o i)) e))
        (v15_at V0 hK ⟨k.val - 1, by omega⟩) (v18_at V0 hK ⟨k.val - 1, by omega⟩)

end Cert.Spline

end
-- ==== Proof.RefCell.lean ====
/- Which interval the reference finds for a sample, and the sample's place in it, for samples in [0, 1] and evenly spaced
   knots. -/
module

public import proofs.«01_k».proof.Proof.Lookup
public import proofs.«01_k».proof.Proof.RefSlopes
public import proofs.«01_k».proof.Proof.Answer
public import Idealize.ShloMosaic.Lib.IndicatorCount

@[expose] public section

set_option maxRecDepth 16384

noncomputable section

namespace Cert.Spline

open Idealize.ShloMosaic Idealize.ShloMosaic.TcCoe Idealize.SL.Sem
open Cert.ReferenceIdeal Cert.ReferenceIdeal.Gen Cert.ReferenceIdeal.Value

/-- The knots strictly below a sample number `⌈63 r⌉`. -/
theorem count_below {r : ℝ} (h1 : r ≤ 1) :
    (Finset.univ.filter fun k : Fin 64 => BitVec.ofBool (decide (((k.val / 63 : ℝ) : EReal) < (r : EReal))) = 1#1).card = ⌈63 * r⌉₊ := by
  have hle := ceil_le h1
  have e : (Finset.univ.filter fun k : Fin 64 => BitVec.ofBool (decide (((k.val / 63 : ℝ) : EReal) < (r : EReal))) = 1#1)
      = Finset.Iio (⟨⌈63 * r⌉₊, by omega⟩ : Fin 64) := by
    ext k
    rw [Finset.mem_filter, Finset.mem_Iio]
    have hb : ∀ p : Bool, BitVec.ofBool p = 1#1 ↔ p = true := by decide
    rw [hb, decide_eq_true_iff, EReal.coe_lt_coe_iff, Fin.lt_def]
    show _ ∧ _ ↔ k.val < ⌈63 * r⌉₊
    rw [Nat.lt_ceil, div_lt_iff₀ (by norm_num), mul_comm r 63]
    exact ⟨fun h => h.2, fun h => ⟨Finset.mem_univ _, h⟩⟩
  rw [e, Fin.card_Iio]

/-- The count as a word. -/
theorem count_word (kn : FVec Ideal S64 .f32) (x : FVec Ideal S2048x64 .f32) (b : Fin 2048) (i : Fin 64) {r : ℝ} (h1 : r ≤ 1)
    (hk : ∀ k : Fin 64, kn (ix1 k) = ((k.val / 63 : ℝ) : EReal)) (hx : x (ix2 b i) = (r : EReal)) :
    Finset.univ.fold IntOp.addi 0#32 (fun k : Fin 64 => BitVec.setWidth 32 (BitVec.ofBool (decide (kn (ix1 k) < x (ix2 b i)))))
      = BitVec.ofNat 32 ⌈63 * r⌉₊ := by
  simp only [hk, hx]
  rw [IndicatorCount.fold_addi_setWidth_eq_card, count_below h1]

/-- The count less one, kept between 0 and 62. -/
theorem clamp_word : ∀ n : Fin 64, IntOp.minsi 62#32 (IntOp.maxsi 0#32 (IntOp.subi (BitVec.ofNat 32 n.val) 1#32)) = BitVec.ofNat 32 (n.val - 1) := by
  decide +kernel

/-- The wrap of a negative number does nothing to a number below 64. -/
theorem wrap_word : ∀ n : Fin 64, Scalar.select (IntOp.cmpi .slt (BitVec.ofNat 32 n.val) 0#32) (IntOp.addi (BitVec.ofNat 32 n.val) 64#32) (BitVec.ofNat 32 n.val)
    = BitVec.ofNat 32 n.val := by
  decide +kernel

/-- One more. -/
theorem succ_word : ∀ n : Fin 63, IntOp.addi (BitVec.ofNat 32 n.val) 1#32 = BitVec.ofNat 32 n.succ.val := by
  decide +kernel

variable (V0 : Valuation τ sig (Elt Ideal)) (hK : ∀ k : Fin 64, refK V0 (ix1 k) = ((k.val / 63 : ℝ) : EReal))
  (r : Fin 2048 → Fin 64 → ℝ) (h0 : ∀ b i, 0 ≤ r b i) (h1 : ∀ b i, r b i ≤ 1)
  (hx : ∀ b i, refX V0 (ix2 b i) = ((r b i : ℝ) : EReal))

include hK h0 h1 hx in
/-- Keeping the sample between the outer knots does nothing. -/
theorem v130_at (b : Fin 2048) (i : Fin 64) : (res_main_v130 (F := Ideal) V0 : FVec Ideal S2048x64 .f32) (ix2 b i) = ((r b i : ℝ) : EReal) := by
  unfold res_main_v130
  clean_types
  pointwise
  have e63 : V0 (Proc.devRef .tc main_arg3) (ix1 63) = ((1 : ℝ) : EReal) := (hK 63).trans (by norm_num)
  have e0 : V0 (Proc.devRef .tc main_arg3) (ix1 0) = ((0 : ℝ) : EReal) := (hK 0).trans (by norm_num)
  have ex : V0 (Proc.devRef .tc main_arg0) (ix2 b i) = ((r b i : ℝ) : EReal) := hx b i
  rw [e63, e0, ex, ← EReal.coe_strictMono.monotone.map_max, ← EReal.coe_strictMono.monotone.map_min, max_eq_right (h0 b i), min_eq_right (h1 b i)]

include hK h0 h1 hx in
/-- The interval's number. -/
theorem v140_at (b : Fin 2048) (i : Fin 64) :
    (res_main_v140 (F := Ideal) V0 : IVec S2048x64 32) (ix2 b i) = BitVec.ofNat 32 (cell (r b i)).castSucc.val := by
  unfold res_main_v140
  clean_types
  pointwise
  refine (congrArg (fun w => IntOp.minsi 62#32 (IntOp.maxsi 0#32 (IntOp.subi w 1#32)))
    (count_word (refK V0) (res_main_v130 (F := Ideal) V0 : FVec Ideal S2048x64 .f32) b i (h1 b i) hK (v130_at V0 hK r h0 h1 hx b i))).trans ?_
  have hc := cell_val (h1 b i)
  have hle := ceil_le (h1 b i)
  exact (clamp_word ⟨⌈63 * r b i⌉₊, by omega⟩).trans (congrArg (BitVec.ofNat 32) hc.symm)

/-- The wrapped numbers at a number below 64. -/
theorem wrap_at (w : IVec S2048x64 32) (b : Fin 2048) (i n : Fin 64) (hw : w (ix2 b i) = BitVec.ofNat 32 n.val) :
    (broadcastInDim S2048x64x1 ![0, 1] bcast_S2048x64_S2048x64x1_0_1
      (select (cmpi .slt w (broadcastInDim S2048x64 ![] bcast_S_S2048x64 (constantI S_ 32 0#32)))
        (addi w (broadcastInDim S2048x64 ![] bcast_S_S2048x64 (constantI S_ 32 64#32))) w) : IVec S2048x64x1 32) (ix3 b i 0)
      = BitVec.ofNat 32 n.val := by
  pointwise
  rw [hw]
  exact wrap_word n

include hK h0 h1 hx in
/-- The knot at the interval's start. -/
theorem v147_at (b : Fin 2048) (i : Fin 64) :
    (res_main_v147 (F := Ideal) V0 : FVec Ideal S2048x64 .f32) (ix2 b i) = (((cell (r b i)).val / 63 : ℝ) : EReal) := by
  unfold res_main_v147
  clean_types
  exact (lookup_vector _ _ b i (cell (r b i)).castSucc (wrap_at _ b i _ (v140_at V0 hK r h0 h1 hx b i))).trans (hK _)

include hK h0 h1 hx in
/-- The number of the knot at the interval's right end. -/
theorem v149_at (b : Fin 2048) (i : Fin 64) :
    (res_main_v149 (F := Ideal) V0 : IVec S2048x64 32) (ix2 b i) = BitVec.ofNat 32 (cell (r b i)).succ.val := by
  unfold res_main_v149
  clean_types
  pointwise
  rw [v140_at V0 hK r h0 h1 hx]
  exact succ_word _

include hK h0 h1 hx in
/-- The interval's length: one spacing. -/
theorem v157_at (b : Fin 2048) (i : Fin 64) : (res_main_v157 (F := Ideal) V0 : FVec Ideal S2048x64 .f32) (ix2 b i) = hh := by
  unfold res_main_v157
  clean_types
  pointwise
  rw [v147_at V0 hK r h0 h1 hx]
  have e : Host.gather gather_S64_S2048x64x1_S2048x64_n_0_n_n_0_2_1 (refK V0)
      (broadcastInDim S2048x64x1 ![0, 1] bcast_S2048x64_S2048x64x1_0_1
      (select (cmpi .slt (res_main_v149 (F := Ideal) V0) (broadcastInDim S2048x64 ![] bcast_S_S2048x64 (constantI S_ 32 0#32)))
        (addi (res_main_v149 (F := Ideal) V0) (broadcastInDim S2048x64 ![] bcast_S_S2048x64 (constantI S_ 32 64#32))) (res_main_v149 (F := Ideal) V0)) : IVec S2048x64x1 32) (ix2 b i)
      = (((cell (r b i)).succ.val / 63 : ℝ) : EReal) :=
    (lookup_vector _ _ b i (cell (r b i)).succ (wrap_at _ b i _ (v149_at V0 hK r h0 h1 hx b i))).trans (hK _)
  refine (congrArg (· - _) e).trans ?_
  show _ - _ = _
  rw [← EReal.coe_sub, hh]
  congr 1
  rw [Fin.val_succ]
  push_cast
  ring

include hK h0 h1 hx in
/-- The sample's place in its interval, from 0 to 1. -/
theorem v169_at (b : Fin 2048) (i : Fin 64) :
    (res_main_v169 (F := Ideal) V0 : FVec Ideal S2048x64 .f32) (ix2 b i) = ((63 * r b i - (cell (r b i)).val : ℝ) : EReal) := by
  unfold res_main_v169
  clean_types
  pointwise
  rw [v157_at V0 hK r h0 h1 hx, v130_at V0 hK r h0 h1 hx, v147_at V0 hK r h0 h1 hx]
  obtain ⟨e, he0, he1, he⟩ := eps_real
  have hn : ¬ FloatOps.absf (F := Ideal) (φ := .f32) hh < Ideal.ofBits .f32 730643660#32 := by
    show ¬ FloatOps.absf (F := Ideal) (φ := .f32) hh < eps
    rw [he, hh, absf_real, EReal.coe_lt_coe_iff, abs_of_pos (by norm_num)]
    linarith
  rw [if_neg hn, if_neg hn, hh, div_real _ (by norm_num), ← EReal.coe_sub, ← EReal.coe_mul]
  congr 1
  field_simp

end Cert.Spline

end
-- ==== Proof.RefValue.lean ====
/- What the reference computes, read at an element, for samples in [0, 1] and evenly spaced knots. -/
module

public import proofs.«01_k».proof.Proof.RefCell

@[expose] public section

set_option maxRecDepth 16384

noncomputable section

namespace Cert.Spline

open Idealize.ShloMosaic Idealize.ShloMosaic.TcCoe Idealize.SL.Sem
open Cert.ReferenceIdeal Cert.ReferenceIdeal.Gen Cert.ReferenceIdeal.Value

variable (V0 : Valuation τ sig (Elt Ideal))

/-- The pairs (input, number) that the reference looks up in a table, from the numbers `w`. -/
def pairs (w : IVec S2048x64 32) : IVec S2048x64x2 32 :=
  concatenate S2048x64x2 2
    [⟨S2048x64x1, broadcastInDim S2048x64x1 ![0, 1] bcast_S2048x64_S2048x64x1_0_1
        (broadcastInDim S2048x64 ![0, 1] bcast_S1x64_S2048x64_0_1
          (select (cmpi .slt (res_main_v192 (F := Ideal) V0) (broadcastInDim S1x64 ![] bcast_S_S1x64 (constantI S_ 32 0#32)))
            (addi (res_main_v192 (F := Ideal) V0) (broadcastInDim S1x64 ![] bcast_S_S1x64 (constantI S_ 32 64#32)))
            (res_main_v192 (F := Ideal) V0)))⟩,
     ⟨S2048x64x1, broadcastInDim S2048x64x1 ![0, 1] bcast_S2048x64_S2048x64x1_0_1
        (select (cmpi .slt w (broadcastInDim S2048x64 ![] bcast_S_S2048x64 (constantI S_ 32 0#32)))
          (addi w (broadcastInDim S2048x64 ![] bcast_S_S2048x64 (constantI S_ 32 64#32))) w)⟩]
    concatenates_S2048x64x1_S2048x64x1_S2048x64x2_d2

/-- The pair's first part is the input. -/
theorem pairs_fst (w : IVec S2048x64 32) (b : Fin 2048) (i : Fin 64) : pairs V0 w (ix3 b i 0) = BitVec.ofNat 32 i.val := by
  unfold pairs res_main_v192
  clean_types
  pointwise
  exact wrap_word i

/-- The pair's second part is the number. -/
theorem pairs_snd (w : IVec S2048x64 32) (b : Fin 2048) (i n : Fin 64) (hw : w (ix2 b i) = BitVec.ofNat 32 n.val) :
    pairs V0 w (ix3 b i 1) = BitVec.ofNat 32 n.val := by
  unfold pairs
  pointwise
  rw [hw]
  exact wrap_word n

/-- The table of values, axes (input, knot, output). -/
theorem v189_at (o i k : Fin 64) : (res_main_v189 (F := Ideal) V0 : FVec Ideal S64x64x64 .f32) (ix3 i k o) = refValues V0 o i k := by
  unfold res_main_v189
  clean_types
  pointwise
  rfl

variable (hK : ∀ k : Fin 64, refK V0 (ix1 k) = ((k.val / 63 : ℝ) : EReal))
  (r : Fin 2048 → Fin 64 → ℝ) (h0 : ∀ b i, 0 ≤ r b i) (h1 : ∀ b i, r b i ≤ 1)
  (hx : ∀ b i, refX V0 (ix2 b i) = ((r b i : ℝ) : EReal))

include hK h0 h1 hx in
/-- The four lookups: value and slope at the interval's start, value and slope at its end. -/
theorem lookups (b : Fin 2048) (i o : Fin 64) :
    Host.gather gather_S64x64x64_S2048x64x2_S2048x64x64_2_01_n_n_01_2_1164 (res_main_v189 (F := Ideal) V0 : FVec Ideal S64x64x64 .f32)
        (pairs V0 (res_main_v140 (F := Ideal) V0)) (ix3 b i o) = refValues V0 o i (cell (r b i)).castSucc
    ∧ Host.gather gather_S64x64x64_S2048x64x2_S2048x64x64_2_01_n_n_01_2_1164 (res_main_v190 (F := Ideal) V0 : FVec Ideal S64x64x64 .f32)
        (pairs V0 (res_main_v140 (F := Ideal) V0)) (ix3 b i o) = slope (refValues V0 o i) (cell (r b i)).castSucc
    ∧ Host.gather gather_S64x64x64_S2048x64x2_S2048x64x64_2_01_n_n_01_2_1164 (res_main_v189 (F := Ideal) V0 : FVec Ideal S64x64x64 .f32)
        (pairs V0 (res_main_v149 (F := Ideal) V0)) (ix3 b i o) = refValues V0 o i (cell (r b i)).succ
    ∧ Host.gather gather_S64x64x64_S2048x64x2_S2048x64x64_2_01_n_n_01_2_1164 (res_main_v190 (F := Ideal) V0 : FVec Ideal S64x64x64 .f32)
        (pairs V0 (res_main_v149 (F := Ideal) V0)) (ix3 b i o) = slope (refValues V0 o i) (cell (r b i)).succ := by
  have a0 := pairs_snd V0 _ b i (cell (r b i)).castSucc (v140_at V0 hK r h0 h1 hx b i)
  have a1 := pairs_snd V0 _ b i (cell (r b i)).succ (v149_at V0 hK r h0 h1 hx b i)
  have f0 := pairs_fst V0 (res_main_v140 (F := Ideal) V0) b i
  have f1 := pairs_fst V0 (res_main_v149 (F := Ideal) V0) b i
  exact ⟨(lookup_table _ _ b i o i _ f0 a0).trans (v189_at V0 o i _), (lookup_table _ _ b i o i _ f0 a0).trans (v190_at V0 hK o i _),
    (lookup_table _ _ b i o i _ f1 a1).trans (v189_at V0 o i _), (lookup_table _ _ b i o i _ f1 a1).trans (v190_at V0 hK o i _)⟩

/-- The interval's length with an axis more. -/
theorem v257_at (b : Fin 2048) (i : Fin 64) :
    (res_main_v257 (F := Ideal) V0 : FVec Ideal S2048x64x1 .f32) (ix3 b i 0) = (res_main_v157 (F := Ideal) V0 : FVec Ideal S2048x64 .f32) (ix2 b i) := by
  unfold res_main_v257
  clean_types
  pointwise

include hK h0 h1 hx in
/-- The square of the place. -/
theorem v170_at (b : Fin 2048) (i : Fin 64) : (res_main_v170 (F := Ideal) V0 : FVec Ideal S2048x64 .f32) (ix2 b i)
    = (((63 * r b i - (cell (r b i)).val) * (63 * r b i - (cell (r b i)).val) : ℝ) : EReal) := by
  unfold res_main_v170
  clean_types
  pointwise
  rw [v169_at V0 hK r h0 h1 hx, ← EReal.coe_mul]

include hK h0 h1 hx in
/-- The cube of the place. -/
theorem v171_at (b : Fin 2048) (i : Fin 64) : (res_main_v171 (F := Ideal) V0 : FVec Ideal S2048x64 .f32) (ix2 b i)
    = (((63 * r b i - (cell (r b i)).val) * (63 * r b i - (cell (r b i)).val) * (63 * r b i - (cell (r b i)).val) : ℝ) : EReal) := by
  unfold res_main_v171
  clean_types
  pointwise
  rw [v170_at V0 hK r h0 h1 hx, v169_at V0 hK r h0 h1 hx, ← EReal.coe_mul]

/-- The cubic as the reference writes it, from reals `t`, `t2`, `t3` that are a place and its powers. -/
theorem cubic_eq {t : ℝ} {n : Fin 63} {C D : Fin 64 → EReal} {T T2 T3 H c0 d0 c1 d1 : EReal} (hT : T = (t : EReal))
    (hT2 : T2 = ((t * t : ℝ) : EReal)) (hT3 : T3 = ((t * t * t : ℝ) : EReal)) (hH : H = hh)
    (hc0 : c0 = C n.castSucc) (hd0 : d0 = D n.castSucc) (hc1 : c1 = C n.succ) (hd1 : d1 = D n.succ) :
    (Ideal.ofBits .f32 1073741824#32 * T3 - Ideal.ofBits .f32 1077936128#32 * T2 + 1) * c0
      + (T3 - Ideal.ofBits .f32 1073741824#32 * T2 + T) * H * d0
      + (Ideal.ofBits .f32 3221225472#32 * T3 + Ideal.ofBits .f32 1077936128#32 * T2) * c1
      + (T3 - T2) * H * d1 = cubic t n C D := by
  rw [hT, hT2, hT3, hH, hc0, hd0, hc1, hd1, ofBits_2, ofBits_3, ofBits_neg2, ← EReal.coe_one]
  simp only [← EReal.coe_mul, ← EReal.coe_sub, ← EReal.coe_add]
  rfl

include hK h0 h1 hx in
/-- The cubic on the sample's interval. -/
theorem v274_at (b : Fin 2048) (i o : Fin 64) : (res_main_v274 (F := Ideal) V0 : FVec Ideal S2048x64x64 .f32) (ix3 b i o)
    = cubic (63 * r b i - (cell (r b i)).val) (cell (r b i)) (refValues V0 o i) (slope (refValues V0 o i)) := by
  obtain ⟨g0, g1, g2, g3⟩ := lookups V0 hK r h0 h1 hx b i o
  unfold pairs at g0 g1 g2 g3
  unfold res_main_v274
  clean_types
  pointwise
  rw [v257_at]
  have e1 : res_main_v209 (F := Ideal) V0 = res_main_v149 (F := Ideal) V0 := rfl
  have e2 : res_main_v241 (F := Ideal) V0 = res_main_v149 (F := Ideal) V0 := rfl
  rw [e1, e2]
  exact cubic_eq (v169_at V0 hK r h0 h1 hx b i) (v170_at V0 hK r h0 h1 hx b i) (v171_at V0 hK r h0 h1 hx b i)
    (v157_at V0 hK r h0 h1 hx b i) g0 g1 g2 g3

/-- The reference's result, as a term of its arguments. -/
def refResult : FVec Ideal S2048x64 .f32 :=
  addf (Host.reduceAdd (select (broadcastInDim S2048x64x64 ![0, 1, 2] bcast_S2048x64x1_S2048x64x64_0_1_2 (broadcastInDim S2048x64x1 ![0, 1] bcast_S2048x64_S2048x64x1_0_1 (cmpf .ogt (refX V0) (broadcastInDim S2048x64 ![] bcast_S_S2048x64 (shapeCast _ (extractStridedSlice S1 ![63] (refK V0) slices_S64_S1_63) shapeCasts_S1_S_))))) (addf (broadcastInDim S2048x64x64 ![0, 1, 2] bcast_S1x64x64_S2048x64x64_0_1_2 (broadcastInDim S1x64x64 ![1, 2] bcast_S64x64_S1x64x64_1_2 (shapeCast _ (extractStridedSlice S64x1x64 ![0, 63, 0] (res_main_v189 (F := Ideal) V0) slices_S64x64x64_S64x1x64_0_63_0) shapeCasts_S64x1x64_S64x64))) (mulf (broadcastInDim S2048x64x64 ![0, 1, 2] bcast_S1x64x64_S2048x64x64_0_1_2 (broadcastInDim S1x64x64 ![1, 2] bcast_S64x64_S1x64x64_1_2 (shapeCast _ (extractStridedSlice S64x1x64 ![0, 63, 0] (res_main_v190 (F := Ideal) V0) slices_S64x64x64_S64x1x64_0_63_0) shapeCasts_S64x1x64_S64x64))) (broadcastInDim S2048x64x64 ![0, 1, 2] bcast_S2048x64x1_S2048x64x64_0_1_2 (broadcastInDim S2048x64x1 ![0, 1] bcast_S2048x64_S2048x64x1_0_1 (subf (refX V0) (broadcastInDim S2048x64 ![] bcast_S_S2048x64 (shapeCast _ (extractStridedSlice S1 ![63] (refK V0) slices_S64_S1_63) shapeCasts_S1_S_))))))) (select (broadcastInDim S2048x64x64 ![0, 1, 2] bcast_S2048x64x1_S2048x64x64_0_1_2 (broadcastInDim S2048x64x1 ![0, 1] bcast_S2048x64_S2048x64x1_0_1 (cmpf .olt (refX V0) (broadcastInDim S2048x64 ![] bcast_S_S2048x64 (shapeCast _ (extractStridedSlice S1 ![0] (refK V0) slices_S64_S1_0) shapeCasts_S1_S_))))) (addf (broadcastInDim S2048x64x64 ![0, 1, 2] bcast_S1x64x64_S2048x64x64_0_1_2 (broadcastInDim S1x64x64 ![1, 2] bcast_S64x64_S1x64x64_1_2 (shapeCast _ (extractStridedSlice S64x1x64 ![0, 0, 0] (res_main_v189 (F := Ideal) V0) slices_S64x64x64_S64x1x64_0_0_0) shapeCasts_S64x1x64_S64x64))) (mulf (broadcastInDim S2048x64x64 ![0, 1, 2] bcast_S1x64x64_S2048x64x64_0_1_2 (broadcastInDim S1x64x64 ![1, 2] bcast_S64x64_S1x64x64_1_2 (shapeCast _ (extractStridedSlice S64x1x64 ![0, 0, 0] (res_main_v190 (F := Ideal) V0) slices_S64x64x64_S64x1x64_0_0_0) shapeCasts_S64x1x64_S64x64))) (broadcastInDim S2048x64x64 ![0, 1, 2] bcast_S2048x64x1_S2048x64x64_0_1_2 (broadcastInDim S2048x64x1 ![0, 1] bcast_S2048x64_S2048x64x1_0_1 (subf (refX V0) (broadcastInDim S2048x64 ![] bcast_S_S2048x64 (shapeCast _ (extractStridedSlice S1 ![0] (refK V0) slices_S64_S1_0) shapeCasts_S1_S_))))))) (res_main_v274 (F := Ideal) V0))) (constant S_ .f32 0x00000000#32) reducesTo_S2048x64x64_S2048x64_d1 h_S_) (broadcastInDim S2048x64 ![0, 1] bcast_S1x64_S2048x64_0_1 (broadcastInDim S1x64 ![1] bcast_S64_S1x64_1 (refB V0)))

include hK h0 h1 hx in
/-- THE REFERENCE'S RESULT at an element: no sample lies outside the knots, so the sum is of the cubics. -/
theorem refResult_at (b : Fin 2048) (o : Fin 64) :
    refResult V0 (ix2 b o) = answer r (refValues V0) (fun o => refB V0 (ix1 o)) b o := by
  unfold refResult
  clean_types
  pointwise
  unfold answer
  refine congrArg (· + _) (Finset.sum_congr rfl fun i _ => ?_)
  have e63 : refK V0 (ix1 63) = ((1 : ℝ) : EReal) := (hK 63).trans (by norm_num)
  have e0 : refK V0 (ix1 0) = ((0 : ℝ) : EReal) := (hK 0).trans (by norm_num)
  have n1 : ¬ refK V0 (ix1 63) < refX V0 (ix2 b i) := by
    rw [e63, hx, EReal.coe_lt_coe_iff]
    exact not_lt.2 (h1 b i)
  have n0 : ¬ refX V0 (ix2 b i) < refK V0 (ix1 0) := by
    rw [e0, hx, EReal.coe_lt_coe_iff]
    exact not_lt.2 (h0 b i)
  rw [if_neg n1, if_neg n0]
  exact v274_at V0 hK r h0 h1 hx b i o

end Cert.Spline

end
-- ==== Proof.Equation.lean ====
/- The equation: on arguments that agree, with samples in [0, 1] and evenly spaced knots, the kernel's result and the
   reference's are equal. -/
module

public import proofs.«01_k».proof.Proof.Given
public import proofs.«01_k».proof.Proof.KernelArray
public import proofs.«01_k».proof.Proof.RefValue

@[expose] public section

set_option maxRecDepth 16384

noncomputable section

namespace Cert.Spline

open Idealize.ShloMosaic Idealize.ShloMosaic.TcCoe Idealize.SL.Sem
open Cert.KernelIdeal (nD τ sig)

variable (m : (ℓ : Loc nD τ sig) → Buf (Elt Ideal) ℓ) (V0 : Valuation Cert.ReferenceIdeal.τ Cert.ReferenceIdeal.sig (Elt Ideal)) (c : Dev nD)

/-- The reference's result is the kernel's. -/
theorem results_equal (hp : Cert.Pre_uniform_unit.fn (F := Ideal) (argX m c) (argC m c) (argB m c) (argK m c) = fun _ => 1#1)
    (hx : refX V0 = argX m c) (hc : refC V0 = argC m c) (hb : refB V0 = argB m c) (hk : refK V0 = argK m c) :
    refResult V0 = (Cert.KernelIdeal.Gen.dats m 0 c).arrAt 4 Cert.KernelIdeal.cfg0.N := by
  have kv := knot_value _ _ _ _ hp
  have sr := sample_real _ _ _ _ hp
  have sp : argK m c (ix1 1) - argK m c (ix1 0) = hh := by
    rw [kv 1, kv 0, ← EReal.coe_sub, hh]
    congr 1
    norm_num
  have ss := samples_spec m c sr
  rw [array_eq m c sp sr]
  refine funext fun j => ?_
  obtain ⟨b, o, rfl⟩ : ∃ (b : Fin 2048) (o : Fin 64), j = ix2 b o := ⟨j 0, j 1, by idx_vars j⟩
  refine (refResult_at V0 (fun k => by rw [hk]; exact kv k) (samples m c) (fun b i => (ss b i).1) (fun b i => (ss b i).2.1)
    (fun b i => by rw [hx]; exact (ss b i).2.2) b o).trans ?_
  have ev : refValues V0 = valuesOf m c := by
    unfold refValues
    rw [hc]
    rfl
  rw [ev, hb]
  rfl

end Cert.Spline

end
-- ==== Proof.RefRun.lean ====
/- The reference's run, its result named `refResult`. -/
module

public import proofs.«01_k».proof.Proof.RefValue

@[expose] public section

set_option maxRecDepth 16384

noncomputable section

namespace Cert.Spline

open Idealize.ShloMosaic Idealize.ShloMosaic.TcCoe Idealize.SL.Sem Idealize.ShloMosaic.StableHlo
open Cert.ReferenceIdeal Cert.ReferenceIdeal.Gen Cert.ReferenceIdeal.Value

/-- Every run of the reference ends with its result at `refResult` of the arguments and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v322) = refResult (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run (defs (F := Ideal)) _ _).mono (fun r h c => ?_) (run (F := Ideal) m ρ)
  unfold refResult refX refK refB
  exact h c

end Cert.Spline

end
-- ==== Proof.lean ====
/- The proof of the certificate's claim: the frames from the generated runs, the value claim from the equation of the two
   results. -/
module

public import proofs.«01_k».proof.Defs
public import proofs.«01_k».proof.Proof.Gen.Kernel.Frame
public import proofs.«01_k».proof.Proof.Gen.KernelIdeal.Value
public import proofs.«01_k».proof.Proof.Gen.Pre_uniform_unit
public import proofs.«01_k».proof.Proof.Gen.ReferenceIdeal.Run
public import proofs.«01_k».proof.Proof.Equation
public import proofs.«01_k».proof.Proof.RefRun
public import Idealize.ShloMosaic.Adequacy
public import Idealize.ShloMosaic.Init
public import Idealize.ShloMosaic.Lib.Quiescent

@[expose] public section

noncomputable section

namespace Cert.Proof

open Idealize.ShloMosaic Idealize.SL.Sem Idealize.ShloMosaic.StableHlo

/-- The reference ends from any memory, its arguments kept and its counters zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from a memory of the precondition. -/
theorem quiescent_ReferenceIdeal_pre : quiescent_ReferenceIdeal_pre_uniform_unit := fun m ρ _ =>
  quiescent_ReferenceIdeal m ρ trivial

/-- From memories that agree on the arguments and satisfy the precondition, both programs end with the same result. -/
theorem algebraic : algebraic_KernelIdeal_ReferenceIdeal_pre_uniform_unit := by
  intro m ρ m' ρ' hp hagree
  refine ⟨fun c => (Cert.KernelIdeal.Gen.dats m 0 c).arrAt 4 Cert.KernelIdeal.cfg0.N, Cert.KernelIdeal.Value.run_blocks (F := Ideal) m ρ, ?_⟩
  refine (θ_run Cert.ReferenceIdeal.defs _ _).mono (fun _ h c => ⟨(h c).1.trans ?_, (h c).2⟩) (Cert.Spline.ref_run m' ρ')
  exact Cert.Spline.results_equal m (launchContents m' c) c (hp c) (hagree c).1 (hagree c).2.1 (hagree c).2.2.1 (hagree c).2.2.2

/-- The certificate's claim: the frames, the preservation and the value claim together. -/
theorem claim : Cert.Claim := ⟨Cert.Kernel.Gen.facts, Cert.KernelIdeal.Gen.facts, Cert.ReferenceIdeal.Gen.facts, Cert.Pre_uniform_unit.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre, (trivial : preserves_Kernel_KernelIdeal), algebraic⟩

end Cert.Proof

end
